-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_TruncatedIdeal (m : (ℓ : Loc Cert.TruncatedIdeal.nD Cert.TruncatedIdeal.τ Cert.TruncatedIdeal.sig) → Buf (Elt Ideal) ℓ) : Prop :=
  True

def Pre_TruncatedIdeal_finite_ReferenceIdeal [hPre_finite_ReferenceIdeal : Cert.Pre_finite_ReferenceIdeal.Facts] (m : (ℓ : Loc Cert.TruncatedIdeal.nD Cert.TruncatedIdeal.τ Cert.TruncatedIdeal.sig) → Buf (Elt Ideal) ℓ) : Prop :=
  ∀ c : Dev Cert.TruncatedIdeal.nD,
    (Cert.Pre_finite_ReferenceIdeal.fn (F := Ideal) (m ((c.tc : Thread Cert.TruncatedIdeal.nD Cert.TruncatedIdeal.τ).loc Cert.TruncatedIdeal.main_arg0)) (m ((c.tc : Thread Cert.TruncatedIdeal.nD Cert.TruncatedIdeal.τ).loc Cert.TruncatedIdeal.main_arg1)) (m ((c.tc : Thread Cert.TruncatedIdeal.nD Cert.TruncatedIdeal.τ).loc Cert.TruncatedIdeal.main_arg2)) (m ((c.tc : Thread Cert.TruncatedIdeal.nD Cert.TruncatedIdeal.τ).loc Cert.TruncatedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_TruncatedIdeal [hTruncatedIdeal : Cert.TruncatedIdeal.Facts] : Prop :=
  ∀ (m : (ℓ : Loc Cert.TruncatedIdeal.nD Cert.TruncatedIdeal.τ Cert.TruncatedIdeal.sig) → Buf (Elt Ideal) ℓ) (g : Dev Cert.TruncatedIdeal.nD → PrngReg), Pre_TruncatedIdeal m →
    θ_run (Cert.TruncatedIdeal.defs (F := Ideal)) (onTc (τ := Cert.TruncatedIdeal.τ) (Cert.TruncatedIdeal.main (F := Ideal))) ⟨m, fun _ => 0, g⟩ (fun r => (∀ c : Dev Cert.TruncatedIdeal.nD,
      r.2.mem ((c.tc : Thread Cert.TruncatedIdeal.nD Cert.TruncatedIdeal.τ).loc Cert.TruncatedIdeal.main_arg0) = m ((c.tc : Thread Cert.TruncatedIdeal.nD Cert.TruncatedIdeal.τ).loc Cert.TruncatedIdeal.main_arg0)
      ∧ r.2.mem ((c.tc : Thread Cert.TruncatedIdeal.nD Cert.TruncatedIdeal.τ).loc Cert.TruncatedIdeal.main_arg1) = m ((c.tc : Thread Cert.TruncatedIdeal.nD Cert.TruncatedIdeal.τ).loc Cert.TruncatedIdeal.main_arg1)
      ∧ r.2.mem ((c.tc : Thread Cert.TruncatedIdeal.nD Cert.TruncatedIdeal.τ).loc Cert.TruncatedIdeal.main_arg2) = m ((c.tc : Thread Cert.TruncatedIdeal.nD Cert.TruncatedIdeal.τ).loc Cert.TruncatedIdeal.main_arg2)
      ∧ r.2.mem ((c.tc : Thread Cert.TruncatedIdeal.nD Cert.TruncatedIdeal.τ).loc Cert.TruncatedIdeal.main_arg3) = m ((c.tc : Thread Cert.TruncatedIdeal.nD Cert.TruncatedIdeal.τ).loc Cert.TruncatedIdeal.main_arg3))
      ∧ r.2.sem = fun _ => 0)

def quiescent_TruncatedIdeal_pre_finite_ReferenceIdeal [hTruncatedIdeal : Cert.TruncatedIdeal.Facts] [hPre_finite_ReferenceIdeal : Cert.Pre_finite_ReferenceIdeal.Facts] : Prop :=
  ∀ (m : (ℓ : Loc Cert.TruncatedIdeal.nD Cert.TruncatedIdeal.τ Cert.TruncatedIdeal.sig) → Buf (Elt Ideal) ℓ) (g : Dev Cert.TruncatedIdeal.nD → PrngReg), Pre_TruncatedIdeal_finite_ReferenceIdeal m →
    θ_run (Cert.TruncatedIdeal.defs (F := Ideal)) (onTc (τ := Cert.TruncatedIdeal.τ) (Cert.TruncatedIdeal.main (F := Ideal))) ⟨m, fun _ => 0, g⟩ (fun r => (∀ c : Dev Cert.TruncatedIdeal.nD,
      r.2.mem ((c.tc : Thread Cert.TruncatedIdeal.nD Cert.TruncatedIdeal.τ).loc Cert.TruncatedIdeal.main_arg0) = m ((c.tc : Thread Cert.TruncatedIdeal.nD Cert.TruncatedIdeal.τ).loc Cert.TruncatedIdeal.main_arg0)
      ∧ r.2.mem ((c.tc : Thread Cert.TruncatedIdeal.nD Cert.TruncatedIdeal.τ).loc Cert.TruncatedIdeal.main_arg1) = m ((c.tc : Thread Cert.TruncatedIdeal.nD Cert.TruncatedIdeal.τ).loc Cert.TruncatedIdeal.main_arg1)
      ∧ r.2.mem ((c.tc : Thread Cert.TruncatedIdeal.nD Cert.TruncatedIdeal.τ).loc Cert.TruncatedIdeal.main_arg2) = m ((c.tc : Thread Cert.TruncatedIdeal.nD Cert.TruncatedIdeal.τ).loc Cert.TruncatedIdeal.main_arg2)
      ∧ r.2.mem ((c.tc : Thread Cert.TruncatedIdeal.nD Cert.TruncatedIdeal.τ).loc Cert.TruncatedIdeal.main_arg3) = m ((c.tc : Thread Cert.TruncatedIdeal.nD Cert.TruncatedIdeal.τ).loc Cert.TruncatedIdeal.main_arg3))
      ∧ r.2.sem = fun _ => 0)

def preserves_Kernel_KernelIdeal : Prop :=
  True

def algebraic_KernelIdeal_ReferenceIdeal_on_carried_pre_finite_KernelIdeal [hKernelIdeal : Cert.KernelIdeal.Facts] [hReferenceIdeal : Cert.ReferenceIdeal.Facts] [hPre_finite_KernelIdeal : Cert.Pre_finite_KernelIdeal.Facts] [hOn_carried : Cert.On_carried.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![4, 256, 256]⟩ ⟨3, ![4, 1024, 256]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4, 256, 16]⟩ ⟨3, ![4, 1024, 16]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 16]⟩ ⟨3, ![4, 1024, 16]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 256, 256]⟩ : Shape).Idx, (Layout.block ⟨3, ![4, 256, 256]⟩ ⟨3, ![4, 1024, 256]⟩ 1 4 c ((Cert.On_carried.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨3, ![4, 256, 256]⟩ : Shape).Idx → _) i = 1#1 → r.2.mem ((c.tc : Thread Cert.KernelIdeal.nD Cert.KernelIdeal.τ).loc Cert.KernelIdeal.main_v1) i = (Layout.block ⟨3, ![4, 256, 256]⟩ ⟨3, ![4, 1024, 256]⟩ 1 4 c v0 : (⟨3, ![4, 256, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨3, ![4, 1024, 256]⟩ : Shape).Idx, (Cert.On_carried.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v4_7) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_TruncatedIdeal_pre_finite_KernelIdeal [hKernelIdeal : Cert.KernelIdeal.Facts] [hTruncatedIdeal : Cert.TruncatedIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.TruncatedIdeal.nD Cert.TruncatedIdeal.τ Cert.TruncatedIdeal.sig) → Buf (Elt Ideal) ℓ) (g' : Dev Cert.TruncatedIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![4, 256, 256]⟩ ⟨3, ![4, 1024, 256]⟩ 1 4 c (m' (((0 : Dev Cert.TruncatedIdeal.nD).tc : Thread Cert.TruncatedIdeal.nD Cert.TruncatedIdeal.τ).loc Cert.TruncatedIdeal.main_arg0))
      ∧ m ((c.tc : Thread Cert.KernelIdeal.nD Cert.KernelIdeal.τ).loc Cert.KernelIdeal.main_arg1) = m' (((0 : Dev Cert.TruncatedIdeal.nD).tc : Thread Cert.TruncatedIdeal.nD Cert.TruncatedIdeal.τ).loc Cert.TruncatedIdeal.main_arg1)
      ∧ m ((c.tc : Thread Cert.KernelIdeal.nD Cert.KernelIdeal.τ).loc Cert.KernelIdeal.main_arg2) = Layout.block ⟨3, ![4, 256, 16]⟩ ⟨3, ![4, 1024, 16]⟩ 1 4 c (m' (((0 : Dev Cert.TruncatedIdeal.nD).tc : Thread Cert.TruncatedIdeal.nD Cert.TruncatedIdeal.τ).loc Cert.TruncatedIdeal.main_arg2))
      ∧ m ((c.tc : Thread Cert.KernelIdeal.nD Cert.KernelIdeal.τ).loc Cert.KernelIdeal.main_arg3) = Layout.block ⟨3, ![4, 256, 16]⟩ ⟨3, ![4, 1024, 16]⟩ 1 4 c (m' (((0 : Dev Cert.TruncatedIdeal.nD).tc : Thread Cert.TruncatedIdeal.nD Cert.TruncatedIdeal.τ).loc Cert.TruncatedIdeal.main_arg3))) →
    ∃ (v0 : Buf (Elt Ideal) (((0 : Dev Cert.TruncatedIdeal.nD).tc : Thread Cert.TruncatedIdeal.nD Cert.TruncatedIdeal.τ).loc Cert.TruncatedIdeal.main_v4_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 256]⟩ ⟨3, ![4, 1024, 256]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.TruncatedIdeal.defs (F := Ideal)) (onTc (τ := Cert.TruncatedIdeal.τ) (Cert.TruncatedIdeal.main (F := Ideal))) ⟨m', fun _ => 0, g'⟩ (fun r =>
          r.2.mem (((0 : Dev Cert.TruncatedIdeal.nD).tc : Thread Cert.TruncatedIdeal.nD Cert.TruncatedIdeal.τ).loc Cert.TruncatedIdeal.main_v4_8) = v0
          ∧ r.2.mem (((0 : Dev Cert.TruncatedIdeal.nD).tc : Thread Cert.TruncatedIdeal.nD Cert.TruncatedIdeal.τ).loc Cert.TruncatedIdeal.main_arg0) = m' (((0 : Dev Cert.TruncatedIdeal.nD).tc : Thread Cert.TruncatedIdeal.nD Cert.TruncatedIdeal.τ).loc Cert.TruncatedIdeal.main_arg0)
          ∧ r.2.mem (((0 : Dev Cert.TruncatedIdeal.nD).tc : Thread Cert.TruncatedIdeal.nD Cert.TruncatedIdeal.τ).loc Cert.TruncatedIdeal.main_arg1) = m' (((0 : Dev Cert.TruncatedIdeal.nD).tc : Thread Cert.TruncatedIdeal.nD Cert.TruncatedIdeal.τ).loc Cert.TruncatedIdeal.main_arg1)
          ∧ r.2.mem (((0 : Dev Cert.TruncatedIdeal.nD).tc : Thread Cert.TruncatedIdeal.nD Cert.TruncatedIdeal.τ).loc Cert.TruncatedIdeal.main_arg2) = m' (((0 : Dev Cert.TruncatedIdeal.nD).tc : Thread Cert.TruncatedIdeal.nD Cert.TruncatedIdeal.τ).loc Cert.TruncatedIdeal.main_arg2)
          ∧ r.2.mem (((0 : Dev Cert.TruncatedIdeal.nD).tc : Thread Cert.TruncatedIdeal.nD Cert.TruncatedIdeal.τ).loc Cert.TruncatedIdeal.main_arg3) = m' (((0 : Dev Cert.TruncatedIdeal.nD).tc : Thread Cert.TruncatedIdeal.nD Cert.TruncatedIdeal.τ).loc Cert.TruncatedIdeal.main_arg3))

def Claim : Prop :=
  ∃ (hKernel : Cert.Kernel.Facts) (hKernelIdeal : Cert.KernelIdeal.Facts) (hReferenceIdeal : Cert.ReferenceIdeal.Facts) (hTruncatedIdeal : Cert.TruncatedIdeal.Facts) (hPre_finite_KernelIdeal : Cert.Pre_finite_KernelIdeal.Facts) (hPre_finite_ReferenceIdeal : Cert.Pre_finite_ReferenceIdeal.Facts) (hOn_carried : Cert.On_carried.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_TruncatedIdeal (hTruncatedIdeal := hTruncatedIdeal)
    ∧ quiescent_TruncatedIdeal_pre_finite_ReferenceIdeal (hTruncatedIdeal := hTruncatedIdeal) (hPre_finite_ReferenceIdeal := hPre_finite_ReferenceIdeal)
    ∧ preserves_Kernel_KernelIdeal
    ∧ algebraic_KernelIdeal_ReferenceIdeal_on_carried_pre_finite_KernelIdeal (hKernelIdeal := hKernelIdeal) (hReferenceIdeal := hReferenceIdeal) (hPre_finite_KernelIdeal := hPre_finite_KernelIdeal) (hOn_carried := hOn_carried)
    ∧ algebraic_KernelIdeal_TruncatedIdeal_pre_finite_KernelIdeal (hKernelIdeal := hKernelIdeal) (hTruncatedIdeal := hTruncatedIdeal) (hPre_finite_KernelIdeal := hPre_finite_KernelIdeal)
-- ==== On_carried.lean ====
abbrev S4x1024x256 : Shape := ⟨3, ![4, 1024, 256]⟩
abbrev S256x16 : Shape := ⟨2, ![256, 16]⟩
abbrev S4x1024x16 : Shape := ⟨3, ![4, 1024, 16]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .f32) (main_arg1 : FVec F S256x16 .f32) (main_arg2 : FVec F S4x1024x16 .f32) (main_arg3 : FVec F S4x1024x16 .f32) : IVec S4x1024x256 1 :=
  let main_v0 : IVec S4x1024x256 32 := iotaInDim S4x1024x256 32 1
  let main_c : IVec S_ 32 := constantI S_ 32 256#32
  let main_v1 : IVec S4x1024x256 32 := broadcastInDim S4x1024x256 ![] bcast_S_S4x1024x256 main_c
  let main_v2 : IVec S4x1024x256 1 := cmpi .slt main_v0 main_v1
  let main_c_0 : IVec S_ 32 := constantI S_ 32 255#32
  let main_v3 : IVec S4x1024x256 32 := broadcastInDim S4x1024x256 ![] bcast_S_S4x1024x256 main_c_0
  let main_v4 : IVec S4x1024x256 32 := andi main_v0 main_v3
  let main_c_1 : IVec S_ 32 := constantI S_ 32 32#32
  let main_v5 : IVec S4x1024x256 32 := broadcastInDim S4x1024x256 ![] bcast_S_S4x1024x256 main_c_1
  let main_v6 : IVec S4x1024x256 1 := cmpi .slt main_v4 main_v5
  let main_v7 : IVec S4x1024x256 1 := ori main_v2 main_v6
  main_v7
-- ==== Pre_finite_KernelIdeal.lean ====
abbrev S4x256x256 : Shape := ⟨3, ![4, 256, 256]⟩
abbrev S256x16 : Shape := ⟨2, ![256, 16]⟩
abbrev S4x256x16 : Shape := ⟨3, ![4, 256, 16]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S4x256x16 : S_.BroadcastsInDim S4x256x16 (![] : Fin 0 → Fin S4x256x16.rank)
  reducesTo_S4x256x16_S_d0_1_2 : S4x256x16.ReducesTo [0, 1, 2] S_

variable [Facts]

def fn_part1 {F : FTy → Type} [FloatOps F] (main_v12 : IVec S_ 1) (main_v15 : IVec S4x256x16 1) (main_c_5 : IVec S_ 1) : IVec S_ 1 :=
  let main_v16 : IVec S_ 1 := (fun x v => Host.reduce IntOp.andi x v reducesTo_S4x256x16_S_d0_1_2 h_S_) main_v15 main_c_5
  let main_v17 : IVec S_ 1 := andi main_v12 main_v16
  main_v17

def fn {F : FTy → Type} [FloatOps F] (main_arg0 : FVec F S4x256x256 .f32) (main_arg1 : FVec F S256x16 .f32) (main_arg2 : FVec F S4x256x16 .f32) (main_arg3 : FVec F S4x256x16 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_cst_0 : FVec F S_ .f32 := constant S_ .f32 0x7F800000#32
  let main_v4 : FVec F S256x16 .f32 := broadcastInDim S256x16 ![] bcast_S_S256x16 main_cst_0
  let main_v5 : IVec S256x16 1 := cmpf .olt main_arg1 main_v4
  let main_c_1 : IVec S_ 1 := constantI S_ 1 1#1
  let main_v6 : IVec S_ 1 := (fun x v => Host.reduce IntOp.andi x v reducesTo_S256x16_S_d0_1 h_S_) main_v5 main_c_1
  let main_v7 : IVec S_ 1 := andi main_v3 main_v6
  let main_v8 : FVec F S4x256x16 .f32 := Host.absf main_arg2
  let main_cst_2 : FVec F S_ .f32 := constant S_ .f32 0x7F800000#32
  let main_v9 : FVec F S4x256x16 .f32 := broadcastInDim S4x256x16 ![] bcast_S_S4x256x16 main_cst_2
  let main_v10 : IVec S4x256x16 1 := cmpf .olt main_v8 main_v9
  let main_c_3 : IVec S_ 1 := constantI S_ 1 1#1
  let main_v11 : IVec S_ 1 := (fun x v => Host.reduce IntOp.andi x v reducesTo_S4x256x16_S_d0_1_2 h_S_) main_v10 main_c_3
  let main_v12 : IVec S_ 1 := andi main_v7 main_v11
  let main_v13 : FVec F S4x256x16 .f32 := Host.absf main_arg3
  let main_cst_4 : FVec F S_ .f32 := constant S_ .f32 0x7F800000#32
  let main_v14 : FVec F S4x256x16 .f32 := broadcastInDim S4x256x16 ![] bcast_S_S4x256x16 main_cst_4
  let main_v15 : IVec S4x256x16 1 := cmpf .olt main_v13 main_v14
  let main_c_5 : IVec S_ 1 := constantI S_ 1 1#1
  fn_part1 (F := F) main_v12 main_v15 main_c_5
-- ==== Pre_finite_ReferenceIdeal.lean ====
abbrev S4x1024x256 : Shape := ⟨3, ![4, 1024, 256]⟩
abbrev S256x16 : Shape := ⟨2, ![256, 16]⟩
abbrev S4x1024x16 : Shape := ⟨3, ![4, 1024, 16]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S4x1024x16 : S_.BroadcastsInDim S4x1024x16 (![] : Fin 0 → Fin S4x1024x16.rank)
  reducesTo_S4x1024x16_S_d0_1_2 : S4x1024x16.ReducesTo [0, 1, 2] S_

variable [Facts]

def fn_part1 {F : FTy → Type} [FloatOps F] (main_v12 : IVec S_ 1) (main_v15 : IVec S4x1024x16 1) (main_c_5 : IVec S_ 1) : IVec S_ 1 :=
  let main_v16 : IVec S_ 1 := (fun x v => Host.reduce IntOp.andi x v reducesTo_S4x1024x16_S_d0_1_2 h_S_) main_v15 main_c_5
  let main_v17 : IVec S_ 1 := andi main_v12 main_v16
  main_v17

def fn {F : FTy → Type} [FloatOps F] (main_arg0 : FVec F S4x1024x256 .f32) (main_arg1 : FVec F S256x16 .f32) (main_arg2 : FVec F S4x1024x16 .f32) (main_arg3 : FVec F S4x1024x16 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_cst_0 : FVec F S_ .f32 := constant S_ .f32 0x7F800000#32
  let main_v4 : FVec F S256x16 .f32 := broadcastInDim S256x16 ![] bcast_S_S256x16 main_cst_0
  let main_v5 : IVec S256x16 1 := cmpf .olt main_arg1 main_v4
  let main_c_1 : IVec S_ 1 := constantI S_ 1 1#1
  let main_v6 : IVec S_ 1 := (fun x v => Host.reduce IntOp.andi x v reducesTo_S256x16_S_d0_1 h_S_) main_v5 main_c_1
  let main_v7 : IVec S_ 1 := andi main_v3 main_v6
  let main_v8 : FVec F S4x1024x16 .f32 := Host.absf main_arg2
  let main_cst_2 : FVec F S_ .f32 := constant S_ .f32 0x7F800000#32
  let main_v9 : FVec F S4x1024x16 .f32 := broadcastInDim S4x1024x16 ![] bcast_S_S4x1024x16 main_cst_2
  let main_v10 : IVec S4x1024x16 1 := cmpf .olt main_v8 main_v9
  let main_c_3 : IVec S_ 1 := constantI S_ 1 1#1
  let main_v11 : IVec S_ 1 := (fun x v => Host.reduce IntOp.andi x v reducesTo_S4x1024x16_S_d0_1_2 h_S_) main_v10 main_c_3
  let main_v12 : IVec S_ 1 := andi main_v7 main_v11
  let main_v13 : FVec F S4x1024x16 .f32 := Host.absf main_arg3
  let main_cst_4 : FVec F S_ .f32 := constant S_ .f32 0x7F800000#32
  let main_v14 : FVec F S4x1024x16 .f32 := broadcastInDim S4x1024x16 ![] bcast_S_S4x1024x16 main_cst_4
  let main_v15 : IVec S4x1024x16 1 := cmpf .olt main_v13 main_v14
  let main_c_5 : IVec S_ 1 := constantI S_ 1 1#1
  fn_part1 (F := F) main_v12 main_v15 main_c_5
-- ==== Kernel.lean ====
abbrev S4x256x256 : Shape := ⟨3, ![4, 256, 256]⟩
abbrev S256x16 : Shape := ⟨2, ![256, 16]⟩
abbrev S4x256x16 : Shape := ⟨3, ![4, 256, 16]⟩
abbrev S4x256x16x256 : Shape := ⟨4, ![4, 256, 16, 256]⟩
abbrev S4x16x256 : Shape := ⟨3, ![4, 16, 256]⟩
abbrev S3x4x16x256 : Shape := ⟨4, ![3, 4, 16, 256]⟩
abbrev S3 : Shape := ⟨1, ![3]⟩
abbrev S_ : Shape := ⟨0, ![]⟩
abbrev S16x256 : Shape := ⟨2, ![16, 256]⟩
abbrev S4x256x1x256 : Shape := ⟨4, ![4, 256, 1, 256]⟩
abbrev S4x256x16x1 : Shape := ⟨4, ![4, 256, 16, 1]⟩
abbrev S1x16x256 : Shape := ⟨3, ![1, 16, 256]⟩
abbrev S4x1x16x256 : Shape := ⟨4, ![4, 1, 16, 256]⟩
abbrev S1 : Shape := ⟨1, ![1]⟩
abbrev S1x4x16x256 : Shape := ⟨4, ![1, 4, 16, 256]⟩
abbrev S32x1x1 : Shape := ⟨3, ![32, 1, 1]⟩
abbrev S32x16x256 : Shape := ⟨3, ![32, 16, 256]⟩
abbrev S1x32x16x256 : Shape := ⟨4, ![1, 32, 16, 256]⟩
abbrev S4x32x16x256 : Shape := ⟨4, ![4, 32, 16, 256]⟩
abbrev S4x32x16 : Shape := ⟨3, ![4, 32, 16]⟩
abbrev S4x32x16x1 : Shape := ⟨4, ![4, 32, 16, 1]⟩
abbrev S4x32x256 : Shape := ⟨3, ![4, 32, 256]⟩

abbrev nBuf : Space → Nat
  | .hbm => 5
  | .vmem => 9
  | .smem => 0
  | _ => 0

abbrev bufTy : (tb : Table) → Fin (tcTables nBuf tb) → BufTy
  | .hbm, ⟨0, _⟩ => ⟨S4x256x256, .f32⟩
  | .hbm, ⟨1, _⟩ => ⟨S256x16, .f32⟩
  | .hbm, ⟨2, _⟩ => ⟨S4x256x16, .f32⟩
  | .hbm, ⟨3, _⟩ => ⟨S4x256x16, .f32⟩
  | .hbm, ⟨4, _⟩ => ⟨S4x256x256, .f32⟩
  | .local _ .vmem, ⟨0, _⟩ => ⟨S4x256x256, .f32⟩
  | .local _ .vmem, ⟨1, _⟩ => ⟨S256x16, .f32⟩
  | .local _ .vmem, ⟨2, _⟩ => ⟨S4x256x16, .f32⟩
  | .local _ .vmem, ⟨3, _⟩ => ⟨S4x256x16, .f32⟩
  | .local _ .vmem, ⟨4, _⟩ => ⟨S4x256x256, .f32⟩
  | .local _ .vmem, ⟨5, _⟩ => ⟨S4x256x16x256, .f32⟩
  | .local _ .vmem, ⟨6, _⟩ => ⟨S4x16x256, .f32⟩
  | .local _ .vmem, ⟨7, _⟩ => ⟨S3x4x16x256, .f32⟩
  | .local _ .vmem, ⟨8, _⟩ => ⟨S4x16x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 2 → Bool
  | ⟨0, _⟩ => false
  | ⟨1, _⟩ => true
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 2 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_100 : BitVec 32 := 0#32
  let c0_i32_98 : BitVec 32 := 0#32
  let c1_i32_99 : BitVec 32 := 1#32
  let v112 : BitVec 32 := Scalar.muli c0_i32_98 c1_i32_99
  let v113 : BitVec 32 := Scalar.addi c0_i32_100 v112
  v113.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_100 : BitVec 32 := 0#32
  let c1_i32_98 : BitVec 32 := 1#32
  let c1_i32_99 : BitVec 32 := 1#32
  let v112 : BitVec 32 := Scalar.muli c1_i32_98 c1_i32_99
  let v113 : BitVec 32 := Scalar.addi c0_i32_100 v112
  v113.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_100 : BitVec 32 := 0#32
  let c2_i32_98 : BitVec 32 := 2#32
  let c1_i32_99 : BitVec 32 := 1#32
  let v112 : BitVec 32 := Scalar.muli c2_i32_98 c1_i32_99
  let v113 : BitVec 32 := Scalar.addi c0_i32_100 v112
  v113.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_100 : BitVec 32 := 0#32
  let c3_i32_98 : BitVec 32 := 3#32
  let c1_i32_99 : BitVec 32 := 1#32
  let v112 : BitVec 32 := Scalar.muli c3_i32_98 c1_i32_99
  let v113 : BitVec 32 := Scalar.addi c0_i32_100 v112
  v113.toNat
@[reducible] def k0_t1_loop : Scf.Loop 32 :=
  let c0_i32_17 : BitVec 32 := 0#32
  let c256_i32 : BitVec 32 := 256#32
  let v33 : BitVec 32 := Scalar.addi c0_i32_17 c256_i32
  let c1_i32_18 : BitVec 32 := 1#32
  ⟨c0_i32_17, v33, c1_i32_18⟩
def k0_off1 (k0_t1 : Fin k0_t1_loop.trips) : Fin 4 → Nat :=
  let c0_97 : Index := 0#32
  let c0_i32_17 : BitVec 32 := 0#32
  let c1_i32_18 : BitVec 32 := 1#32
  let arg11 : BitVec 32 := Scf.iv c0_i32_17 c1_i32_18 k0_t1
  let v115 : Index := Scalar.indexCast arg11
  let c0_98 : Index := 0#32
  let c0_99 : Index := 0#32
  ![0, v115.toNat, 0, 0]
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_24 : BitVec 32 := 1#32
  let v39 : BitVec 32 := Scalar.addi v2 c1_i32_24
  let c4_i32_25 : BitVec 32 := 4#32
  let v40 : BitVec 1 := Scalar.cmpi .slt v39 c4_i32_25
  let v41 : BitVec 32 := Scalar.extui v40
  let c0_i32_29 : BitVec 32 := 0#32
  let v42 : BitVec 1 := Scalar.cmpi .ne v41 c0_i32_29
  v42

def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v38 : BitVec 32 := Scalar.addi v2 c1_i32_23
  let c1_i32_97 : BitVec 32 := 1#32
  let v112 : BitVec 32 := Scalar.muli v38 c1_i32_97
  let v113 : BitVec 32 := Scalar.addi c0_i32_98 v112
  v113.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_31 : BitVec 32 := 2#32
  let v44 : BitVec 32 := Scalar.addi v2 c2_i32_31
  let c4_i32_32 : BitVec 32 := 4#32
  let v45 : BitVec 1 := Scalar.cmpi .slt v44 c4_i32_32
  let v46 : BitVec 32 := Scalar.extui v45
  let c0_i32_36 : BitVec 32 := 0#32
  let v47 : BitVec 1 := Scalar.cmpi .ne v46 c0_i32_36
  v47

def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_30 : BitVec 32 := 2#32
  let v43 : BitVec 32 := Scalar.addi v2 c2_i32_30
  let c1_i32_97 : BitVec 32 := 1#32
  let v112 : BitVec 32 := Scalar.muli v43 c1_i32_97
  let v113 : BitVec 32 := Scalar.addi c0_i32_98 v112
  v113.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v49 : BitVec 32 := Scalar.addi v2 c3_i32_38
  let c4_i32_39 : BitVec 32 := 4#32
  let v50 : BitVec 1 := Scalar.cmpi .slt v49 c4_i32_39
  let v51 : BitVec 32 := Scalar.extui v50
  let c0_i32_43 : BitVec 32 := 0#32
  let v52 : BitVec 1 := Scalar.cmpi .ne v51 c0_i32_43
  v52

def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v48 : BitVec 32 := Scalar.addi v2 c3_i32_37
  let c1_i32_97 : BitVec 32 := 1#32
  let v112 : BitVec 32 := Scalar.muli v48 c1_i32_97
  let v113 : BitVec 32 := Scalar.addi c0_i32_98 v112
  v113.toNat
def k0_cond14 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_97_r0 : BitVec 32 := 0#32
  let v113_r0 : BitVec 1 := Scalar.cmpi .ne v2 c0_i32_97_r0
  let v114_r0 : BitVec 32 := Scalar.extui v113_r0
  let c0_i32_98_r0 : BitVec 32 := 0#32
  let v115_r0 : BitVec 1 := Scalar.cmpi .ne v114_r0 c0_i32_98_r0
  v115_r0

def k0_dev8 : Nat :=
  let c0_i32_110_r0 : BitVec 32 := 0#32
  let c0_i32_108_r0 : BitVec 32 := 0#32
  let c1_i32_109_r0 : BitVec 32 := 1#32
  let v125_r0 : BitVec 32 := Scalar.muli c0_i32_108_r0 c1_i32_109_r0
  let v126_r0 : BitVec 32 := Scalar.addi c0_i32_110_r0 v125_r0
  v126_r0.toNat
def k0_cond15 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_99_r0 : BitVec 32 := 1#32
  let v116_r0 : BitVec 1 := Scalar.cmpi .ne v2 c1_i32_99_r0
  let v117_r0 : BitVec 32 := Scalar.extui v116_r0
  let c0_i32_100_r0 : BitVec 32 := 0#32
  let v118_r0 : BitVec 1 := Scalar.cmpi .ne v117_r0 c0_i32_100_r0
  v118_r0

def k0_dev9 : Nat :=
  let c0_i32_110_r0 : BitVec 32 := 0#32
  let c1_i32_108_r0 : BitVec 32 := 1#32
  let c1_i32_109_r0 : BitVec 32 := 1#32
  let v125_r0 : BitVec 32 := Scalar.muli c1_i32_108_r0 c1_i32_109_r0
  let v126_r0 : BitVec 32 := Scalar.addi c0_i32_110_r0 v125_r0
  v126_r0.toNat
def k0_cond16 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_101_r0 : BitVec 32 := 2#32
  let v119_r0 : BitVec 1 := Scalar.cmpi .ne v2 c2_i32_101_r0
  let v120_r0 : BitVec 32 := Scalar.extui v119_r0
  let c0_i32_102_r0 : BitVec 32 := 0#32
  let v121_r0 : BitVec 1 := Scalar.cmpi .ne v120_r0 c0_i32_102_r0
  v121_r0

def k0_dev10 : Nat :=
  let c0_i32_110_r0 : BitVec 32 := 0#32
  let c2_i32_108_r0 : BitVec 32 := 2#32
  let c1_i32_109_r0 : BitVec 32 := 1#32
  let v125_r0 : BitVec 32 := Scalar.muli c2_i32_108_r0 c1_i32_109_r0
  let v126_r0 : BitVec 32 := Scalar.addi c0_i32_110_r0 v125_r0
  v126_r0.toNat
def k0_cond17 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_103_r0 : BitVec 32 := 3#32
  let v122_r0 : BitVec 1 := Scalar.cmpi .ne v2 c3_i32_103_r0
  let v123_r0 : BitVec 32 := Scalar.extui v122_r0
  let c0_i32_104_r0 : BitVec 32 := 0#32
  let v124_r0 : BitVec 1 := Scalar.cmpi .ne v123_r0 c0_i32_104_r0
  v124_r0

def k0_dev11 : Nat :=
  let c0_i32_110_r0 : BitVec 32 := 0#32
  let c3_i32_108_r0 : BitVec 32 := 3#32
  let c1_i32_109_r0 : BitVec 32 := 1#32
  let v125_r0 : BitVec 32 := Scalar.muli c3_i32_108_r0 c1_i32_109_r0
  let v126_r0 : BitVec 32 := Scalar.addi c0_i32_110_r0 v125_r0
  v126_r0.toNat
abbrev stage0_0 : Fin 1 → Memref sig .tc .vmem S4x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x256 : Shape := ⟨3, ![4, 1024, 256]⟩
abbrev S256x16 : Shape := ⟨2, ![256, 16]⟩
abbrev S4x1024x16 : Shape := ⟨3, ![4, 1024, 16]⟩
abbrev S1x256x16 : Shape := ⟨3, ![1, 256, 16]⟩
abbrev S_ : Shape := ⟨0, ![]⟩
abbrev S4x256x16 : Shape := ⟨3, ![4, 256, 16]⟩
abbrev S4x1x256 : Shape := ⟨3, ![4, 1, 256]⟩
abbrev S4x256x1 : Shape := ⟨3, ![4, 256, 1]⟩
abbrev S4x1x16 : Shape := ⟨3, ![4, 1, 16]⟩
abbrev S4x256 : Shape := ⟨2, ![4, 256]⟩

abbrev nBuf : Space → Nat
  | .hbm => 74
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S256x16, .f32⟩
  | .hbm, ⟨2, _⟩ => ⟨S4x1024x16, .f32⟩
  | .hbm, ⟨3, _⟩ => ⟨S4x1024x16, .f32⟩
  | .hbm, ⟨4, _⟩ => ⟨S256x16, .f32⟩
  | .hbm, ⟨5, _⟩ => ⟨S1x256x16, .f32⟩
  | .hbm, ⟨6, _⟩ => ⟨S_, .f32⟩
  | .hbm, ⟨7, _⟩ => ⟨S4x256x16, .f32⟩
  | .hbm, ⟨8, _⟩ => ⟨S_, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S4x1024x256, .f32⟩
  | .hbm, ⟨13, _⟩ => ⟨S4x1024x16, .f32⟩
  | .hbm, ⟨14, _⟩ => ⟨S4x1024x16, .f32⟩
  | .hbm, ⟨15, _⟩ => ⟨S1x256x16, .f32⟩
  | .hbm, ⟨16, _⟩ => ⟨S_, .i32⟩
  | .hbm, ⟨17, _⟩ => ⟨S_, .i32⟩
  | .hbm, ⟨18, _⟩ => ⟨S4x256x16, .f32⟩
  | .hbm, ⟨19, _⟩ => ⟨S4x1024x256, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S4x1x256, .f32⟩
  | .hbm, ⟨33, _⟩ => ⟨S4x256x1, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S4x1x16, .f32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S4x1x16, .f32⟩
  | .hbm, ⟨52, _⟩ => ⟨S4x256x16, .f32⟩
  | .hbm, ⟨53, _⟩ => ⟨S4x256x16, .f32⟩
  | .hbm, ⟨54, _⟩ => ⟨S4x256x16, .f32⟩
  | .hbm, ⟨55, _⟩ => ⟨S4x256x16, .f32⟩
  | .hbm, ⟨56, _⟩ => ⟨S4x256x16, .f32⟩
  | .hbm, ⟨57, _⟩ => ⟨S4x256x16, .f32⟩
  | .hbm, ⟨58, _⟩ => ⟨S4x256x16, .f32⟩
  | .hbm, ⟨59, _⟩ => ⟨S4x256x16, .f32⟩
  | .hbm, ⟨60, _⟩ => ⟨S_, .f32⟩
  | .hbm, ⟨61, _⟩ => ⟨S4x256, .f32⟩
  | .hbm, ⟨62, _⟩ => ⟨S4x1x256, .f32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S4x1024x256, .f32⟩
  | .hbm, ⟨72, _⟩ => ⟨S_, .i32⟩
  | .hbm, ⟨73, _⟩ => ⟨S_, .i32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_c_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_while0c_c_9 : Ref sig .tc := ⟨.hbm, 20, rfl⟩
abbrev main_while0c_v5 : Ref sig .tc := ⟨.hbm, 21, rfl⟩
abbrev main_while0b_c_9 : Ref sig .tc := ⟨.hbm, 22, rfl⟩
abbrev main_while0b_v5 : Ref sig .tc := ⟨.hbm, 23, rfl⟩
abbrev main_while0b_c_10 : Ref sig .tc := ⟨.hbm, 24, rfl⟩
abbrev main_while0b_v6 : Ref sig .tc := ⟨.hbm, 25, rfl⟩
abbrev main_while0b_v7 : Ref sig .tc := ⟨.hbm, 26, rfl⟩
abbrev main_while0b_c_11 : Ref sig .tc := ⟨.hbm, 27, rfl⟩
abbrev main_while0b_v8 : Ref sig .tc := ⟨.hbm, 28, rfl⟩
abbrev main_while0b_v9 : Ref sig .tc := ⟨.hbm, 29, rfl⟩
abbrev main_while0b_c_12 : Ref sig .tc := ⟨.hbm, 30, rfl⟩
abbrev main_while0b_c_13 : Ref sig .tc := ⟨.hbm, 31, rfl⟩
abbrev main_while0b_v10 : Ref sig .tc := ⟨.hbm, 32, rfl⟩
abbrev main_while0b_v11 : Ref sig .tc := ⟨.hbm, 33, rfl⟩
abbrev main_while0b_c_14 : Ref sig .tc := ⟨.hbm, 34, rfl⟩
abbrev main_while0b_v12 : Ref sig .tc := ⟨.hbm, 35, rfl⟩
abbrev main_while0b_v13 : Ref sig .tc := ⟨.hbm, 36, rfl⟩
abbrev main_while0b_c_15 : Ref sig .tc := ⟨.hbm, 37, rfl⟩
abbrev main_while0b_v14 : Ref sig .tc := ⟨.hbm, 38, rfl⟩
abbrev main_while0b_v15 : Ref sig .tc := ⟨.hbm, 39, rfl⟩
abbrev main_while0b_c_16 : Ref sig .tc := ⟨.hbm, 40, rfl⟩
abbrev main_while0b_c_17 : Ref sig .tc := ⟨.hbm, 41, rfl⟩
abbrev main_while0b_v16 : Ref sig .tc := ⟨.hbm, 42, rfl⟩
abbrev main_while0b_c_18 : Ref sig .tc := ⟨.hbm, 43, rfl⟩
abbrev main_while0b_v17 : Ref sig .tc := ⟨.hbm, 44, rfl⟩
abbrev main_while0b_v18 : Ref sig .tc := ⟨.hbm, 45, rfl⟩
abbrev main_while0b_c_19 : Ref sig .tc := ⟨.hbm, 46, rfl⟩
abbrev main_while0b_v19 : Ref sig .tc := ⟨.hbm, 47, rfl⟩
abbrev main_while0b_v20 : Ref sig .tc := ⟨.hbm, 48, rfl⟩
abbrev main_while0b_c_20 : Ref sig .tc := ⟨.hbm, 49, rfl⟩
abbrev main_while0b_c_21 : Ref sig .tc := ⟨.hbm, 50, rfl⟩
abbrev main_while0b_v21 : Ref sig .tc := ⟨.hbm, 51, rfl⟩
abbrev main_while0b_v22 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_v26 : Ref sig .tc := ⟨.hbm, 56, rfl⟩
abbrev main_while0b_v27 : Ref sig .tc := ⟨.hbm, 57, rfl⟩
abbrev main_while0b_v28 : Ref sig .tc := ⟨.hbm, 58, rfl⟩
abbrev main_while0b_v29 : Ref sig .tc := ⟨.hbm, 59, rfl⟩
abbrev main_while0b_cst_22 : Ref sig .tc := ⟨.hbm, 60, rfl⟩
abbrev main_while0b_v30 : Ref sig .tc := ⟨.hbm, 61, rfl⟩
abbrev main_while0b_v31 : Ref sig .tc := ⟨.hbm, 62, rfl⟩
abbrev main_while0b_c_23 : Ref sig .tc := ⟨.hbm, 63, rfl⟩
abbrev main_while0b_v32 : Ref sig .tc := ⟨.hbm, 64, rfl⟩
abbrev main_while0b_v33 : Ref sig .tc := ⟨.hbm, 65, rfl⟩
abbrev main_while0b_c_24 : Ref sig .tc := ⟨.hbm, 66, rfl⟩
abbrev main_while0b_v34 : Ref sig .tc := ⟨.hbm, 67, rfl⟩
abbrev main_while0b_v35 : Ref sig .tc := ⟨.hbm, 68, rfl⟩
abbrev main_while0b_c_25 : Ref sig .tc := ⟨.hbm, 69, rfl⟩
abbrev main_while0b_c_26 : Ref sig .tc := ⟨.hbm, 70, rfl⟩
abbrev main_while0b_v36 : Ref sig .tc := ⟨.hbm, 71, rfl⟩
abbrev main_while0b_c_27 : Ref sig .tc := ⟨.hbm, 72, rfl⟩
abbrev main_while0b_v37 : Ref sig .tc := ⟨.hbm, 73, rfl⟩

abbrev nD : Nat := 1
abbrev τ : Topo := Topo.v7x

variable {F : FTy → Type} [FloatOps F]

abbrev main_while0_count : Scf.Loop 32 := ⟨0#32, 1024#32, 1#32⟩
-- ==== TruncatedIdeal.lean ====
abbrev S4x1024x256 : Shape := ⟨3, ![4, 1024, 256]⟩
abbrev S256x16 : Shape := ⟨2, ![256, 16]⟩
abbrev S4x1024x16 : Shape := ⟨3, ![4, 1024, 16]⟩
abbrev S1x256x16 : Shape := ⟨3, ![1, 256, 16]⟩
abbrev S_ : Shape := ⟨0, ![]⟩
abbrev S4x256x16 : Shape := ⟨3, ![4, 256, 16]⟩
abbrev S4x1x256 : Shape := ⟨3, ![4, 1, 256]⟩
abbrev S4x256x1 : Shape := ⟨3, ![4, 256, 1]⟩
abbrev S4x1x16 : Shape := ⟨3, ![4, 1, 16]⟩
abbrev S4x256 : Shape := ⟨2, ![4, 256]⟩

abbrev nBuf : Space → Nat
  | .hbm => 94
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S256x16, .f32⟩
  | .hbm, ⟨2, _⟩ => ⟨S4x1024x16, .f32⟩
  | .hbm, ⟨3, _⟩ => ⟨S4x1024x16, .f32⟩
  | .hbm, ⟨4, _⟩ => ⟨S256x16, .f32⟩
  | .hbm, ⟨5, _⟩ => ⟨S1x256x16, .f32⟩
  | .hbm, ⟨6, _⟩ => ⟨S_, .f32⟩
  | .hbm, ⟨7, _⟩ => ⟨S4x256x16, .f32⟩
  | .hbm, ⟨8, _⟩ => ⟨S_, .f32⟩
  | .hbm, ⟨9, _⟩ => ⟨S4x1024x256, .f32⟩
  | .hbm, ⟨10, _⟩ => ⟨S_, .i32⟩
  | .hbm, ⟨11, _⟩ => ⟨S_, .i32⟩
  | .hbm, ⟨12, _⟩ => ⟨S4x1024x256, .f32⟩
  | .hbm, ⟨13, _⟩ => ⟨S4x1024x16, .f32⟩
  | .hbm, ⟨14, _⟩ => ⟨S4x1024x16, .f32⟩
  | .hbm, ⟨15, _⟩ => ⟨S1x256x16, .f32⟩
  | .hbm, ⟨16, _⟩ => ⟨S_, .i32⟩
  | .hbm, ⟨17, _⟩ => ⟨S_, .i32⟩
  | .hbm, ⟨18, _⟩ => ⟨S4x256x16, .f32⟩
  | .hbm, ⟨19, _⟩ => ⟨S4x256x16, .f32⟩
  | .hbm, ⟨20, _⟩ => ⟨S4x1024x256, .f32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S4x1x256, .f32⟩
  | .hbm, ⟨34, _⟩ => ⟨S4x256x1, .f32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S4x1x16, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S4x1x16, .f32⟩
  | .hbm, ⟨53, _⟩ => ⟨S4x256x16, .f32⟩
  | .hbm, ⟨54, _⟩ => ⟨S4x256x16, .f32⟩
  | .hbm, ⟨55, _⟩ => ⟨S4x256x16, .f32⟩
  | .hbm, ⟨56, _⟩ => ⟨S4x256x16, .f32⟩
  | .hbm, ⟨57, _⟩ => ⟨S4x256x16, .f32⟩
  | .hbm, ⟨58, _⟩ => ⟨S4x256x16, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .f32⟩
  | .hbm, ⟨64, _⟩ => ⟨S_, .f32⟩
  | .hbm, ⟨65, _⟩ => ⟨S4x256x16, .f32⟩
  | .hbm, ⟨66, _⟩ => ⟨S4x256x16, .f32⟩
  | .hbm, ⟨67, _⟩ => ⟨S4x256x16, .f32⟩
  | .hbm, ⟨68, _⟩ => ⟨S4x256x16, .f32⟩
  | .hbm, ⟨69, _⟩ => ⟨S4x256x16, .f32⟩
  | .hbm, ⟨70, _⟩ => ⟨S4x256x16, .f32⟩
  | .hbm, ⟨71, _⟩ => ⟨S4x256x16, .f32⟩
  | .hbm, ⟨72, _⟩ => ⟨S4x256x16, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S4x256x16, .f32⟩
  | .hbm, ⟨78, _⟩ => ⟨S4x256x16, .f32⟩
  | .hbm, ⟨79, _⟩ => ⟨S4x256x16, .f32⟩
  | .hbm, ⟨80, _⟩ => ⟨S_, .f32⟩
  | .hbm, ⟨81, _⟩ => ⟨S4x256, .f32⟩
  | .hbm, ⟨82, _⟩ => ⟨S4x1x256, .f32⟩
  | .hbm, ⟨83, _⟩ => ⟨S_, .i32⟩
  | .hbm, ⟨84, _⟩ => ⟨S_, .i1⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S4x1024x256, .f32⟩
  | .hbm, ⟨92, _⟩ => ⟨S_, .i32⟩
  | .hbm, ⟨93, _⟩ => ⟨S_, .i32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_c_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_v4_8 : Ref sig .tc := ⟨.hbm, 20, rfl⟩
abbrev main_while0c_c_10 : Ref sig .tc := ⟨.hbm, 21, rfl⟩
abbrev main_while0c_v5 : Ref sig .tc := ⟨.hbm, 22, rfl⟩
abbrev main_while0b_c_10 : Ref sig .tc := ⟨.hbm, 23, rfl⟩
abbrev main_while0b_v5 : Ref sig .tc := ⟨.hbm, 24, rfl⟩
abbrev main_while0b_c_11 : Ref sig .tc := ⟨.hbm, 25, rfl⟩
abbrev main_while0b_v6 : Ref sig .tc := ⟨.hbm, 26, rfl⟩
abbrev main_while0b_v7 : Ref sig .tc := ⟨.hbm, 27, rfl⟩
abbrev main_while0b_c_12 : Ref sig .tc := ⟨.hbm, 28, rfl⟩
abbrev main_while0b_v8 : Ref sig .tc := ⟨.hbm, 29, rfl⟩
abbrev main_while0b_v9 : Ref sig .tc := ⟨.hbm, 30, rfl⟩
abbrev main_while0b_c_13 : Ref sig .tc := ⟨.hbm, 31, rfl⟩
abbrev main_while0b_c_14 : Ref sig .tc := ⟨.hbm, 32, rfl⟩
abbrev main_while0b_v10 : Ref sig .tc := ⟨.hbm, 33, rfl⟩
abbrev main_while0b_v11 : Ref sig .tc := ⟨.hbm, 34, rfl⟩
abbrev main_while0b_c_15 : Ref sig .tc := ⟨.hbm, 35, rfl⟩
abbrev main_while0b_v12 : Ref sig .tc := ⟨.hbm, 36, rfl⟩
abbrev main_while0b_v13 : Ref sig .tc := ⟨.hbm, 37, rfl⟩
abbrev main_while0b_c_16 : Ref sig .tc := ⟨.hbm, 38, rfl⟩
abbrev main_while0b_v14 : Ref sig .tc := ⟨.hbm, 39, rfl⟩
abbrev main_while0b_v15 : Ref sig .tc := ⟨.hbm, 40, rfl⟩
abbrev main_while0b_c_17 : Ref sig .tc := ⟨.hbm, 41, rfl⟩
abbrev main_while0b_c_18 : Ref sig .tc := ⟨.hbm, 42, rfl⟩
abbrev main_while0b_v16 : Ref sig .tc := ⟨.hbm, 43, rfl⟩
abbrev main_while0b_c_19 : Ref sig .tc := ⟨.hbm, 44, rfl⟩
abbrev main_while0b_v17 : Ref sig .tc := ⟨.hbm, 45, rfl⟩
abbrev main_while0b_v18 : Ref sig .tc := ⟨.hbm, 46, rfl⟩
abbrev main_while0b_c_20 : Ref sig .tc := ⟨.hbm, 47, rfl⟩
abbrev main_while0b_v19 : Ref sig .tc := ⟨.hbm, 48, rfl⟩
abbrev main_while0b_v20 : Ref sig .tc := ⟨.hbm, 49, rfl⟩
abbrev main_while0b_c_21 : Ref sig .tc := ⟨.hbm, 50, rfl⟩
abbrev main_while0b_c_22 : Ref sig .tc := ⟨.hbm, 51, rfl⟩
abbrev main_while0b_v21 : Ref sig .tc := ⟨.hbm, 52, rfl⟩
abbrev main_while0b_v22 : Ref sig .tc := ⟨.hbm, 53, rfl⟩
abbrev main_while0b_v23 : Ref sig .tc := ⟨.hbm, 54, rfl⟩
abbrev main_while0b_v24 : Ref sig .tc := ⟨.hbm, 55, rfl⟩
abbrev main_while0b_v25 : Ref sig .tc := ⟨.hbm, 56, rfl⟩
abbrev main_while0b_v26 : Ref sig .tc := ⟨.hbm, 57, rfl⟩
abbrev main_while0b_v27 : Ref sig .tc := ⟨.hbm, 58, rfl⟩
abbrev main_while0b_c_23 : Ref sig .tc := ⟨.hbm, 59, rfl⟩
abbrev main_while0b_v28 : Ref sig .tc := ⟨.hbm, 60, rfl⟩
abbrev main_while0b_c_24 : Ref sig .tc := ⟨.hbm, 61, rfl⟩
abbrev main_while0b_v29 : Ref sig .tc := ⟨.hbm, 62, rfl⟩
abbrev main_while0b_cst_25 : Ref sig .tc := ⟨.hbm, 63, rfl⟩
abbrev main_while0b_call0_v0 : Ref sig .tc := ⟨.hbm, 64, rfl⟩
abbrev main_while0b_call0_v1 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_v33 : Ref sig .tc := ⟨.hbm, 69, rfl⟩
abbrev main_while0b_v34 : Ref sig .tc := ⟨.hbm, 70, rfl⟩
abbrev main_while0b_v35 : Ref sig .tc := ⟨.hbm, 71, rfl⟩
abbrev main_while0b_v36 : Ref sig .tc := ⟨.hbm, 72, rfl⟩
abbrev main_while0b_c_26 : Ref sig .tc := ⟨.hbm, 73, rfl⟩
abbrev main_while0b_v37 : Ref sig .tc := ⟨.hbm, 74, rfl⟩
abbrev main_while0b_c_27 : Ref sig .tc := ⟨.hbm, 75, rfl⟩
abbrev main_while0b_v38 : Ref sig .tc := ⟨.hbm, 76, rfl⟩
abbrev main_while0b_v39 : Ref sig .tc := ⟨.hbm, 77, rfl⟩
abbrev main_while0b_v40 : Ref sig .tc := ⟨.hbm, 78, rfl⟩
abbrev main_while0b_v41 : Ref sig .tc := ⟨.hbm, 79, rfl⟩
abbrev main_while0b_cst_28 : Ref sig .tc := ⟨.hbm, 80, rfl⟩
abbrev main_while0b_v42 : Ref sig .tc := ⟨.hbm, 81, rfl⟩
abbrev main_while0b_v43 : Ref sig .tc := ⟨.hbm, 82, rfl⟩
abbrev main_while0b_c_29 : Ref sig .tc := ⟨.hbm, 83, rfl⟩
abbrev main_while0b_v44 : Ref sig .tc := ⟨.hbm, 84, rfl⟩
abbrev main_while0b_v45 : Ref sig .tc := ⟨.hbm, 85, rfl⟩
abbrev main_while0b_c_30 : Ref sig .tc := ⟨.hbm, 86, rfl⟩
abbrev main_while0b_v46 : Ref sig .tc := ⟨.hbm, 87, rfl⟩
abbrev main_while0b_v47 : Ref sig .tc := ⟨.hbm, 88, rfl⟩
abbrev main_while0b_c_31 : Ref sig .tc := ⟨.hbm, 89, rfl⟩
abbrev main_while0b_c_32 : Ref sig .tc := ⟨.hbm, 90, rfl⟩
abbrev main_while0b_v48 : Ref sig .tc := ⟨.hbm, 91, rfl⟩
abbrev main_while0b_c_33 : Ref sig .tc := ⟨.hbm, 92, rfl⟩
abbrev main_while0b_v49 : Ref sig .tc := ⟨.hbm, 93, rfl⟩

abbrev nD : Nat := 1
abbrev τ : Topo := Topo.v7x

variable {F : FTy → Type} [FloatOps F]

abbrev main_while0_count : Scf.Loop 32 := ⟨0#32, 1024#32, 1#32⟩
-- ==== Proof.Proto.lean ====
/-
The exchange of block states between the four devices: the cells, what each counts, what a count hands over,
and what every device owes at launch.

Device `c` keeps eight cells: the runtime's barrier semaphore (everybody ready), the closing semaphore of the
scoped region (everybody done), three send semaphores and three receive semaphores. Send `k` of device `c` carries
the device's block state to device `c + k + 1`, which takes it in slot `k` of its receive buffer.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter at zero, any generator registers. -/
def start₀ : MemSt nD τ sig (Elt F) := ⟨m, fun _ => 0, ρ⟩

/-! ## Who sends to whom -/

/-- The device that send `k` of device `c` is addressed to (when `c + k + 1 < 4`). -/
def tgt (c : Dev nD) (k : Fin 3) : Dev nD := ⟨(c.val + k.val + 1) % 4, Nat.mod_lt _ (by decide)⟩
/-- The device whose state slot `k` of device `c` takes (when `k < c`). -/
def src (c : Dev nD) (k : Fin 3) : Dev nD := ⟨(c.val + 3 - k.val) % 4, Nat.mod_lt _ (by decide)⟩
/-- The slot of device `c` that device `p` writes (when `p < c`). -/
def slotOf (p c : Dev nD) : Fin 3 := ⟨(c.val - p.val - 1) % 3, Nat.mod_lt _ (by decide)⟩

theorem src_tgt (c : Dev nD) (k : Fin 3) : src (tgt c k) k = c := by revert c k; decide
theorem tgt_src (c : Dev nD) (k : Fin 3) : tgt (src c k) k = c := by revert c k; decide

/-! ## Memrefs -/

abbrev xM : Memref sig .tc .vmem S4x256x256 .f32 := Memref.whole cc0_stg0_0
abbrev aM : Memref sig .tc .vmem S256x16 .f32 := Memref.whole cc0_stg1_0
abbrev bM : Memref sig .tc .vmem S4x256x16 .f32 := Memref.whole cc0_stg2_0
abbrev cM : Memref sig .tc .vmem S4x256x16 .f32 := Memref.whole cc0_stg3_0
abbrev oM : Memref sig .tc .vmem S4x256x256 .f32 := Memref.whole cc0_stg4_0
abbrev uM : Memref sig .tc .vmem S4x256x16x256 .f32 := Memref.whole cc0_scratch0
abbrev eM : Memref sig .tc .vmem S4x16x256 .f32 := Memref.whole cc0_scratch1
abbrev rM : Memref sig .tc .vmem S3x4x16x256 .f32 := Memref.whole cc0_scratch2
abbrev hM : Memref sig .tc .vmem S4x16x256 .f32 := Memref.whole cc0_scratch3

/-- Slot `k` of the receive buffer, as a load addresses it. -/
abbrev slotRect : (k : Fin 3) → Rect S3x4x16x256
  | 0 => Rect.unit (s := S3x4x16x256) ![0, 0, 0, 0] S1x4x16x256.size inb_S3x4x16x256_S1x4x16x256_0_0_0_0
  | 1 => Rect.unit (s := S3x4x16x256) ![1, 0, 0, 0] S1x4x16x256.size inb_S3x4x16x256_S1x4x16x256_1_0_0_0
  | 2 => Rect.unit (s := S3x4x16x256) ![2, 0, 0, 0] S1x4x16x256.size inb_S3x4x16x256_S1x4x16x256_2_0_0_0

/-- Slot `k` of the receive buffer, as a transfer addresses it. -/
abbrev rSlot : (k : Fin 3) → Memref sig .tc .vmem S4x16x256 .f32
  | 0 => (rM.slice (Rect.unit (s := S3x4x16x256) ![0, 0, 0, 0] S1x4x16x256.size inb_S3x4x16x256_S1x4x16x256_0_0_0_0) (fun _ => rfl)).squeeze S4x16x256 squeezes_S1x4x16x256_S4x16x256
  | 1 => (rM.slice (Rect.unit (s := S3x4x16x256) ![1, 0, 0, 0] S1x4x16x256.size inb_S3x4x16x256_S1x4x16x256_1_0_0_0) (fun _ => rfl)).squeeze S4x16x256 squeezes_S1x4x16x256_S4x16x256
  | 2 => (rM.slice (Rect.unit (s := S3x4x16x256) ![2, 0, 0, 0] S1x4x16x256.size inb_S3x4x16x256_S1x4x16x256_2_0_0_0) (fun _ => rfl)).squeeze S4x16x256 squeezes_S1x4x16x256_S4x16x256

/-! ## Cells -/

abbrev barS : Sem sig := (SemArray.scalar (sig.barrier 0 rfl) : Sems sig S_).sem
abbrev finS : Sem sig := (cc0_scoped0 : Sems sig S_).sem
abbrev sendS : Fin 3 → DmaSem sig
  | 0 => ((cc0_scratch4.slice (Rect.unit (s := S3) ![0] S1.size inb_S3_S1_0)).squeeze S_ squeezes_S1_S_).sem
  | 1 => ((cc0_scratch4.slice (Rect.unit (s := S3) ![1] S1.size inb_S3_S1_1)).squeeze S_ squeezes_S1_S_).sem
  | 2 => ((cc0_scratch4.slice (Rect.unit (s := S3) ![2] S1.size inb_S3_S1_2)).squeeze S_ squeezes_S1_S_).sem
abbrev recvS : Fin 3 → DmaSem sig
  | 0 => ((cc0_scratch5.slice (Rect.unit (s := S3) ![0] S1.size inb_S3_S1_0)).squeeze S_ squeezes_S1_S_).sem
  | 1 => ((cc0_scratch5.slice (Rect.unit (s := S3) ![1] S1.size inb_S3_S1_1)).squeeze S_ squeezes_S1_S_).sem
  | 2 => ((cc0_scratch5.slice (Rect.unit (s := S3) ![2] S1.size inb_S3_S1_2)).squeeze S_ squeezes_S1_S_).sem

/-- The eight semaphores: barrier, closing, sends, receives. -/
abbrev csem : Fin 8 → SemLoc sig
  | 0 => .reg barS | 1 => .reg finS
  | 2 => .dma (sendS 0) | 3 => .dma (sendS 1) | 4 => .dma (sendS 2)
  | 5 => .dma (recvS 0) | 6 => .dma (recvS 1) | 7 => .dma (recvS 2)
abbrev sI : Fin 3 → Fin 8 | 0 => 2 | 1 => 3 | 2 => 4
abbrev rI : Fin 3 → Fin 8 | 0 => 5 | 1 => 6 | 2 => 7
abbrev cell (c : Dev nD) (i : Fin 8) : GSem nD τ sig := ((c : Thread nD τ), csem i)

theorem csem_injective : Function.Injective csem := by decide

/-- Which of the eight a semaphore is (8 for none of them). -/
def idx (s : SemLoc sig) : Fin 9 :=
  if s = csem 0 then 0 else if s = csem 1 then 1 else if s = csem 2 then 2 else if s = csem 3 then 3
  else if s = csem 4 then 4 else if s = csem 5 then 5 else if s = csem 6 then 6 else if s = csem 7 then 7 else 8
theorem idx_csem (i : Fin 8) : idx (csem i) = i.castSucc := by revert i; decide

/-- The bytes one transfer of a block state counts. -/
abbrev N : ℕ := (eM : Memref sig .tc .vmem S4x16x256 .f32).view.dmaCredit
theorem N_pos : 0 < N := View.dmaCredit_pos _ (by decide)

/-! ## Contents -/

/-- The blocks of `x`, `A`, `B`, `C` that device `c` holds. -/
def xAt (c : Dev nD) : (cc0_stg0_0 : Ref sig .tc).ty.Contents (Elt F) := (win0_0.blk (0 : Fin 1)).view.read (Elt F) (m ((c : Thread nD τ).loc main_arg0))
def aAt (c : Dev nD) : (cc0_stg1_0 : Ref sig .tc).ty.Contents (Elt F) := (win0_1.blk (0 : Fin 1)).view.read (Elt F) (m ((c : Thread nD τ).loc main_arg1))
def bAt (c : Dev nD) : (cc0_stg2_0 : Ref sig .tc).ty.Contents (Elt F) := (win0_2.blk (0 : Fin 1)).view.read (Elt F) (m ((c : Thread nD τ).loc main_arg2))
def cAt (c : Dev nD) : (cc0_stg3_0 : Ref sig .tc).ty.Contents (Elt F) := (win0_3.blk (0 : Fin 1)).view.read (Elt F) (m ((c : Thread nD τ).loc main_arg3))

/-- The transposed decay exponents and their exponentials. -/
def aT (c : Dev nD) : FVec F S16x256 .f32 := k0_pay1 (aAt m c)
def dA (c : Dev nD) : FVec F S16x256 .f32 := k0_pay2 (aAt m c)

abbrev rowRect (t : Fin k0_t1_loop.trips) : Rect S4x256x16x256 := Rect.unit (s := S4x256x16x256) (k0_off1 t) S4x1x16x256.size (k0_off1_inb t)

/-- The loop's state and the scan buffer before trip `t`: one trip decays the state, adds the trip's row of inputs,
    and stores the new state back in that row. -/
def scanSt (d : FVec F S16x256 .f32) (u : Vec F S4x256x16x256 .f32) : ℕ → FVec F S4x16x256 .f32 × (cc0_scratch0 : Ref sig .tc).ty.Contents (Elt F)
  | 0 => (k0_pay5, u)
  | t + 1 =>
    let p := scanSt d u t
    if h : t < k0_t1_loop.trips then
      (k0_pay6 d p.1 ((uM : Memref sig .tc .vmem S4x256x16x256 .f32).view.readAt (Elt F) (rowRect ⟨t, h⟩).toLoadRect p.2),
        ((uM : Memref sig .tc .vmem S4x256x16x256 .f32).access (rowRect ⟨t, h⟩) : View sig .tc _ _ _).write (Elt F) p.2
          (k0_pay7 d p.1 ((uM : Memref sig .tc .vmem S4x256x16x256 .f32).view.readAt (Elt F) (rowRect ⟨t, h⟩).toLoadRect p.2)) Finset.univ)
    else p

/-- The products `x · B` the scan starts from. -/
def uAt (c : Dev nD) : FVec F S4x256x16x256 .f32 := k0_pay4 (k0_pay3 (xAt m c) (bAt m c))
def scanAt (c : Dev nD) (t : ℕ) := scanSt (dA m c) (uAt m c) t
/-- The state at the end of device `c`'s block: what it sends. -/
def hend (c : Dev nD) : (cc0_scratch1 : Ref sig .tc).ty.Contents (Elt F) := k0_pay8 (scanAt m c k0_t1_loop.trips).1

/-- One received state added to the carry, decayed by the literal `w` times the exponents. -/
def addCarry (w : BitVec 32) (a : FVec F S16x256 .f32) (acc e : FVec F S4x16x256 .f32) : FVec F S4x16x256 .f32 :=
  shapeCast S4x16x256 (addf acc (mulf e (broadcastTo S4x16x256 (shapeCast S1x16x256 (exp (mulf (broadcast S16x256 (Scalar.ofBits .f32 w)) a)) shapeCasts_S16x256_S1x16x256) broadcasts_S1x16x256_S4x16x256)))
    shapeCasts_S4x16x256_S4x16x256

abbrev wlit : Fin 3 → BitVec 32 | 0 => 0x00000000#32 | 1 => 0x43800000#32 | 2 => 0x44000000#32

/-- The carry after the receives below `k`. -/
def carryStep (c : Dev nD) (k : Fin 3) (acc : FVec F S4x16x256 .f32) : FVec F S4x16x256 .f32 :=
  if k.val < c.val then addCarry (wlit k) (aT m c) acc (hend m (src c k)) else acc
def carryAt (c : Dev nD) : FVec F S4x16x256 .f32 := carryStep m c 2 (carryStep m c 1 (carryStep m c 0 k0_pay10))

abbrev headRect : Rect S4x256x256 := Rect.unit (s := S4x256x256) ![0, 0, 0] S4x32x256.size inb_S4x256x256_S4x32x256_0_0_0

/-- The block's own output, before the carry is added. -/
def ownOut (c : Dev nD) : (cc0_stg4_0 : Ref sig .tc).ty.Contents (Elt F) := k0_pay9 (scanAt m c k0_t1_loop.trips).2 (cAt m c)
/-- The block's output: the carry's share added to the first 32 rows. -/
def outAt (c : Dev nD) : (cc0_stg4_0 : Ref sig .tc).ty.Contents (Elt F) :=
  ((oM : Memref sig .tc .vmem S4x256x256 .f32).access headRect : View sig .tc _ _ _).write (Elt F) (ownOut m c)
    (k0_pay16 (k0_pay14 (carryAt m c)) (k0_pay15 (aT m c)) (cAt m c) ((oM : Memref sig .tc .vmem S4x256x256 .f32).view.readAt (Elt F) headRect.toLoadRect (ownOut m c))) Finset.univ

/-! ## Points-tos -/

/-- The shares of the send buffer that the three sends hold. -/
abbrev qS : Fin 3 → PosShare TreeShare
  | 0 => fullShare.left | 1 => fullShare.right.left | 2 => fullShare.right.right

def ePts (c : Dev nD) (k : Fin 3) (f : Buf (Elt F) ((eM : Memref sig .tc .vmem S4x16x256 .f32).view.loc (c : Thread nD τ))) : sProp 𝕄 :=
  (eM : Memref sig .tc .vmem S4x16x256 .f32).view.loc (c : Thread nD τ) ↦[(eM : Memref sig .tc .vmem S4x16x256 .f32).view.set]{qS k} f
def slotPts (c : Dev nD) (k : Fin 3) (f : Buf (Elt F) ((rSlot k).view.loc (c : Thread nD τ))) : sProp 𝕄 :=
  (rSlot k).view.loc (c : Thread nD τ) ↦[(rSlot k).view.set]{fullShare} f

omit [FloatOps F] in
instance ePts_storable (c : Dev nD) (k : Fin 3) (f) : BI.Storable (upEmb : UEmb _ 𝕄) (ePts (F := F) c k f) := by unfold ePts; infer_instance
omit [FloatOps F] in
instance slotPts_storable (c : Dev nD) (k : Fin 3) (f) : BI.Storable (upEmb : UEmb _ 𝕄) (slotPts (F := F) c k f) := by unfold slotPts; infer_instance

/-- Slot `k` of device `c` at some contents. -/
def slotAny (c : Dev nD) (k : Fin 3) : sProp 𝕄 := iprop(∃ f, slotPts c k f)
/-- Slot `k` of device `c` holding the block state of the device that sends it. -/
def slotFull (c : Dev nD) (k : Fin 3) : sProp 𝕄 := iprop(∃ f, ⌜(rSlot k).view.read (Elt F) f = hend m (src c k)⌝ ∗ slotPts c k f)
omit [FloatOps F] in
instance slotAny_storable (c : Dev nD) (k : Fin 3) : BI.Storable (upEmb : UEmb _ 𝕄) (slotAny (F := F) c k) := by unfold slotAny; infer_instance
instance slotFull_storable (c : Dev nD) (k : Fin 3) : BI.Storable (upEmb : UEmb _ 𝕄) (slotFull (F := F) m c k) := by unfold slotFull; infer_instance

/-- What device `p` hands device `c` with its ready signal: the slot that `c` will write, if `c` comes before it. -/
def barPay (p c : Dev nD) : sProp 𝕄 := if c.val < p.val then slotAny p (slotOf c p) else iprop(emp)
omit [FloatOps F] in
instance barPay_storable (p c : Dev nD) : BI.Storable (upEmb : UEmb _ 𝕄) (barPay (F := F) p c) := by
  unfold barPay; split <;> infer_instance

/-! ## The schedule: one round -/

def dutiesOf (c : Dev nD) : Fin 9 → Finset (Dev nD)
  | 0 => Finset.univ.erase c | 1 => Finset.univ.erase c
  | 2 => if c.val + 1 < 4 then {0} else ∅ | 3 => if c.val + 2 < 4 then {0} else ∅ | 4 => if c.val + 3 < 4 then {0} else ∅
  | 5 => if 0 < c.val then {0} else ∅ | 6 => if 1 < c.val then {0} else ∅ | 7 => if 2 < c.val then {0} else ∅
  | 8 => ∅

def amountOf (i : Fin 9) : ℕ := if i.val < 2 then 1 else N
theorem amountOf_pos (i : Fin 9) : 0 < amountOf i := by
  unfold amountOf; split
  · exact Nat.one_pos
  · exact N_pos

def payOf (c d : Dev nD) : Fin 9 → sProp 𝕄
  | 0 => barPay d c | 1 => iprop(emp)
  | 2 => ePts c 0 (hend m c) | 3 => ePts c 1 (hend m c) | 4 => ePts c 2 (hend m c)
  | 5 => slotFull m c 0 | 6 => slotFull m c 1 | 7 => slotFull m c 2
  | 8 => iprop(emp)

def sched : Rounds.Schedule (GSem nD τ sig) (Dev nD) 𝕄 where
  duties g r := if r = 0 ∧ g.1.2 = .tc then dutiesOf g.1.1 (idx g.2) else ∅
  unitless _ := False
  amount g _ _ := amountOf (idx g.2)
  payload g _ d := payOf m g.1.1 d (idx g.2)
  amount_pos g _ _ _ := amountOf_pos _

instance sched_storable (g : GSem nD τ sig) (r : ℕ) (d : Dev nD) : BI.Storable (upEmb : UEmb _ 𝕄) ((sched (F := F) m).payload g r d) := by
  show BI.Storable upEmb (payOf m g.1.1 d (idx g.2))
  generalize idx g.2 = i
  fin_cases i <;> (dsimp only [payOf]; infer_instance)

theorem duties_cell (c : Dev nD) (i : Fin 8) : (sched (F := F) m).duties (cell c i) 0 = dutiesOf c i.castSucc := by
  dsimp only [sched]; rw [if_pos ⟨rfl, rfl⟩]; show dutiesOf c (idx (csem i)) = _; rw [idx_csem]
theorem duties_later (g : GSem nD τ sig) : ∀ r, 1 ≤ r → (sched (F := F) m).duties g r = ∅ :=
  fun r hr => by dsimp only [sched]; exact if_neg fun h => by omega
theorem duties_none (c : Dev nD) (i : Fin 8) (h : dutiesOf c i.castSucc = ∅) : ∀ r, 0 ≤ r → (sched (F := F) m).duties (cell c i) r = ∅ := fun r _ => by
  rcases Nat.eq_zero_or_pos r with rfl | hr
  · rw [duties_cell, h]
  · exact duties_later m _ r hr
theorem amount_cell (c : Dev nD) (i : Fin 8) (d : Dev nD) : (sched (F := F) m).amount (cell c i) 0 d = amountOf i.castSucc := by
  dsimp only [sched]; show amountOf (idx (csem i)) = _; rw [idx_csem]
theorem payload_cell (c : Dev nD) (i : Fin 8) (d : Dev nD) : (sched (F := F) m).payload (cell c i) 0 d = payOf m c d i.castSucc := by
  dsimp only [sched]; show payOf m c d (idx (csem i)) = _; rw [idx_csem]
theorem expect_cell (c : Dev nD) (i : Fin 8) : (sched (F := F) m).expect (cell c i) 0 = (dutiesOf c i.castSucc).card * amountOf i.castSucc := by
  unfold Schedule.expect Schedule.amountOf
  rw [duties_cell, Finset.sum_congr rfl fun d _ => amount_cell m c i d, Finset.sum_const, smul_eq_mul]
theorem rest_cell (c : Dev nD) (i : Fin 8) :
    bigSep ((sched (F := F) m).duties (cell c i) 0 \ ∅) (fun d => (sched (F := F) m).payload (cell c i) 0 d) = bigSep (dutiesOf c i.castSucc) fun d => payOf m c d i.castSucc := by
  rw [Finset.sdiff_empty, duties_cell]; exact bigSep_congr fun d _ => payload_cell m c i d

/-! ## What each device owes at launch; the levels -/

/-- A unit to device `p`'s barrier, to its closing semaphore, and a block state's bytes to the slot its send `k` fills. -/
def oBar (p c : Dev nD) : CellTallies nD τ sig Unit := if p = c then 0 else tallyAt (cell p 0) () 1
def oFin (p c : Dev nD) : CellTallies nD τ sig Unit := if p = c then 0 else tallyAt (cell p 1) () 1
def oRecv (k : Fin 3) (c : Dev nD) : CellTallies nD τ sig Unit := if c.val + k.val + 1 < 4 then tallyAt (cell (tgt c k) (rI k)) () N else 0

/-- What is still owed from each step on. -/
def oF3 (c : Dev nD) : CellTallies nD τ sig Unit := 0 + oFin 3 c
def oF2 (c : Dev nD) := oF3 c + oFin 2 c
def oF1 (c : Dev nD) := oF2 c + oFin 1 c
def oF0 (c : Dev nD) := oF1 c + oFin 0 c
def oR2 (c : Dev nD) := oF0 c + oRecv 2 c
def oR1 (c : Dev nD) := oR2 c + oRecv 1 c
def oR0 (c : Dev nD) := oR1 c + oRecv 0 c
def oB3 (c : Dev nD) := oR0 c + oBar 3 c
def oB2 (c : Dev nD) := oB3 c + oBar 2 c
def oB1 (c : Dev nD) := oB2 c + oBar 1 c
def oB0 (c : Dev nD) := oB1 c + oBar 0 c

def L (g : GSem nD τ sig) : Finset Unit := if g.1.2 = .tc then {()} else ∅
/-- The barrier before the receives before the closing; everything else (staging, sends) before all of them. -/
def lvOf : Fin 9 → ℕ | 0 => 1 | 1 => 3 | 5 => 2 | 6 => 2 | 7 => 2 | _ => 0
def lv (g : GSem nD τ sig) (_ : Unit) : ℕ := lvOf (idx g.2)

theorem L_of_ne (g : GSem nD τ sig) (h : g.1.2 ≠ .tc) : L g = ∅ := if_neg h
theorem L_tc (c : Dev nD) (s : SemLoc sig) : L ((c : Thread nD τ), s) = {()} := if_pos rfl

/-- Everything owed in `O` sits on a TensorCore cell above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.tally {n : ℕ} (c : Dev nD) (i : Fin 8) (a : ℕ) (hn : n < lvOf i.castSucc) : Above n (tallyAt (cell c i) () a) := fun g u hp => by
  rw [tallyAt_apply] at hp
  by_cases h : g = cell c i ∧ u = ()
  · rw [h.1]; exact ⟨rfl, by show n < lvOf (idx (csem i)); rw [idx_csem]; exact hn⟩
  · rw [if_neg h] at hp; exact absurd hp (Nat.lt_irrefl 0)
theorem Above.oBar (p c : Dev nD) : Above 0 (oBar p c) := by
  unfold Scan.oBar; split
  · exact Above.zero _
  · exact Above.tally _ _ _ (by decide)
theorem Above.oFin (p c : Dev nD) : Above 2 (oFin p c) := by
  unfold Scan.oFin; split
  · exact Above.zero _
  · exact Above.tally _ _ _ (by decide)
theorem Above.oRecv (k : Fin 3) (c : Dev nD) : Above 1 (oRecv k c) := by
  unfold Scan.oRecv; split
  · exact Above.tally _ _ _ (by fin_cases k <;> decide)
  · exact Above.zero _
theorem Above.mono {n n' : ℕ} {O : CellTallies nD τ sig Unit} (h : Above n O) (hn : n' ≤ n) : Above n' O :=
  fun g u hp => ⟨(h g u hp).1, Nat.lt_of_le_of_lt hn (h g u hp).2⟩

theorem above_F0 (c : Dev nD) : Above 2 (oF0 c) :=
  ((((Above.zero 2).add (.oFin 3 c)).add (.oFin 2 c)).add (.oFin 1 c)).add (.oFin 0 c)
theorem above_R0 (c : Dev nD) : Above 1 (oR0 c) :=
  ((((above_F0 c).mono (by decide)).add (.oRecv 2 c)).add (.oRecv 1 c)).add (.oRecv 0 c)
theorem above_B0 (c : Dev nD) : Above 0 (oB0 c) :=
  (((((above_R0 c).mono (by decide)).add (.oBar 3 c)).add (.oBar 2 c)).add (.oBar 1 c)).add (.oBar 0 c)

omit [FloatOps F] in
/-- A device may wait on a semaphore below everything that it owes. -/
theorem mayWait_of (c : Dev nD) (s : SemLoc sig) (n : ℕ) (hs : lvOf (idx s) ≤ n) {O : CellTallies nD τ sig Unit} (hO : Above n O) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.Scan

end
-- ==== Proof.Steps.lean ====
/-
The kernel's body, part by part: the ready signals and the loads.
-/
module

public import proofs.«01_k».proof.Proof.Proto

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of device `c`'s program. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What all devices know: every cell's invariant, and that its round is open -/

def records (K : Dev nD × Fin 8 → ℕ) : sProp 𝕄 :=
  iprop((bigSep Finset.univ fun ci : Dev nD × Fin 8 => cellInv ER (sched m) (K ci) (cell ci.1 ci.2))
    ∗ bigSep Finset.univ fun ci : Dev nD × Fin 8 => reached ER (cell ci.1 ci.2) 0)

instance records_persistent (K : Dev nD × Fin 8 → ℕ) : BI.Persistent (records m K) := by unfold records; infer_instance

theorem records_inv (K : Dev nD × Fin 8 → ℕ) (c : Dev nD) (i : Fin 8) : records m K ⊢ cellInv ER (sched m) (K (c, i)) (cell c i) := by
  unfold records
  iintro ⟨H, -⟩
  iapply (show (bigSep Finset.univ fun ci : Dev nD × Fin 8 => (cellInv ER (sched m) (K ci) (cell ci.1 ci.2) : sProp 𝕄)) ⊢ cellInv ER (sched m) (K (c, i)) (cell c i)
    from bigSep_elim (Finset.mem_univ (c, i)))
  iexact H
theorem records_reached (K : Dev nD × Fin 8 → ℕ) (c : Dev nD) (i : Fin 8) : records m K ⊢ reached ER (cell c i) 0 := by
  unfold records
  iintro ⟨-, H⟩
  iapply (show (bigSep Finset.univ fun ci : Dev nD × Fin 8 => (reached ER (cell ci.1 ci.2) 0 : sProp 𝕄)) ⊢ reached ER (cell c i) 0
    from bigSep_elim (Finset.mem_univ (c, i)))
  iexact H

/-- What a device owes, whatever it has waited for. -/
def ow (c : Dev nD) (O : CellTallies nD τ sig Unit) : sProp 𝕄 := iprop(∃ W, owes (c : Thread nD τ) O W)

/-! ## One conditional step, then the rest -/

omit [FloatOps F] in
/-- A branch that either runs `A` and goes on, or goes on at once: `R` holds when going on. -/
theorem wp_cut {α : Type} {cd : Prop} [Decidable cd] {jp : Prog (TpuEff nD τ sig (Elt F) Λ₀ .tc) α}
    {A : cd → Prog (TpuEff nD τ sig (Elt F) Λ₀ .tc) α} {P R : sProp 𝕄} {w : Prog (TpuEff nD τ sig (Elt F) Λ₀ .tc) α → sProp 𝕄}
    (h1 : ∀ h : cd, P ⊢ iprop((R -∗ w jp) -∗ w (A h))) (h2 : ¬ cd → P ⊢ R) :
    P ⊢ iprop((R -∗ w jp) -∗ w (dite cd A fun _ => jp)) := by
  by_cases h : cd
  · rw [dif_pos h]; exact h1 h
  · rw [dif_neg h]
    iintro HP Hk
    iapply Hk
    iapply (h2 h); iexact HP

/-- Reading its own number gives device `c` the number `c`. -/
theorem wp_self {α : Type} (c : Dev nD) {Q : α → sProp 𝕄} {k : Dev nD → Prog (TpuEff nD τ sig (Elt F) Λ₀ .tc) α} :
    wpc c (k c) Q ⊢ wpc c (.op .deviceId k) Q :=
  Entails.of_eq (wp_deviceId (defs := defs₀ (F := F)) 𝒱₀ (c : Thread nD τ) none Set.univ (Q := Q) (k := k)).symm

/-! ## Signals -/

/-- Device `c`'s ready signal to another device `p`: it hands over the slot that `p` will write. -/
theorem wp_ready {α : Type} (K : Dev nD × Fin 8 → ℕ) (c p n : Dev nD) (hn : n = p) (hpc : p ≠ c) {Q : α → sProp 𝕄}
    {k : PUnit → Prog (TpuEff nD τ sig (Elt F) Λ₀ .tc) α} (O : CellTallies nD τ sig Unit) {a : ℤ} (ha : a = ((1 : ℕ) : ℤ)) :
    iprop(records m K ∗ ow c (O + oBar p c) ∗ dutyTok ER (cell p 0) 0 c ∗ barPay c p)
      ⊢ iprop((ow c O -∗ wpc c (k ⟨⟩) Q) -∗ wpc c (.op (.semSignal (n : Thread nD τ) barS a) k) Q) := by
  subst hn ha
  unfold oBar ow; rw [if_neg hpc]
  iintro ⟨#HR, ⟨%W, HO⟩, Ht, Hp⟩ Hk
  iapply (Rounds.wp_signal 𝒱₀ ER (sched m) (c : Thread nD τ) none (dst := (n : Thread nD τ)) (sem := barS) (κ := K (n, 0)) (r := 0) (d := c) (k' := 1)
      (by rw [show ((n : Thread nD τ), SemLoc.reg barS) = cell n 0 from rfl, duties_cell]
          exact Finset.mem_erase.mpr ⟨fun h => hpc h.symm, Finset.mem_univ _⟩)
      (amount_cell m n 0 c) () O rfl)
    $$ [HO Ht Hp]
  · isplitr; · iapply (records_inv m K n 0); iexact HR
    isplitl [HO]; · iexact HO
    isplitl [Ht]; · iexact Ht
    isplitl [Hp]; · rw [payload_cell m n 0 c]; dsimp only [payOf, Fin.castSucc_zero]; iexact Hp
    iapply (records_reached m K n 0); iexact HR
  iintro HO
  iapply Hk
  iexists W; iexact HO

/-- Device `c`'s closing signal to another device `p`. -/
theorem wp_done {α : Type} (K : Dev nD × Fin 8 → ℕ) (c p n : Dev nD) (hn : n = p) (hpc : p ≠ c) {Q : α → sProp 𝕄}
    {k : PUnit → Prog (TpuEff nD τ sig (Elt F) Λ₀ .tc) α} (O : CellTallies nD τ sig Unit) {a : ℤ} (ha : a = ((1 : ℕ) : ℤ)) :
    iprop(records m K ∗ ow c (O + oFin p c) ∗ dutyTok ER (cell p 1) 0 c)
      ⊢ iprop((ow c O -∗ wpc c (k ⟨⟩) Q) -∗ wpc c (.op (.semSignal (n : Thread nD τ) finS a) k) Q) := by
  subst hn ha
  unfold oFin ow; rw [if_neg hpc]
  iintro ⟨#HR, ⟨%W, HO⟩, Ht⟩ Hk
  iapply (Rounds.wp_signal 𝒱₀ ER (sched m) (c : Thread nD τ) none (dst := (n : Thread nD τ)) (sem := finS) (κ := K (n, 1)) (r := 0) (d := c) (k' := 1)
      (by rw [show ((n : Thread nD τ), SemLoc.reg finS) = cell n 1 from rfl, duties_cell]
          exact Finset.mem_erase.mpr ⟨fun h => hpc h.symm, Finset.mem_univ _⟩)
      (amount_cell m n 1 c) () O rfl)
    $$ [HO Ht]
  · isplitr; · iapply (records_inv m K n 1); iexact HR
    isplitl [HO]; · iexact HO
    isplitl [Ht]; · iexact Ht
    isplitr; · rw [payload_cell m n 1 c]; dsimp only [payOf]; iempintro
    iapply (records_reached m K n 1); iexact HR
  iintro HO
  iapply Hk
  iexists W; iexact HO

/-- No signal goes to the device itself: nothing was owed for it. -/
theorem not_ready (K : Dev nD × Fin 8 → ℕ) (c p : Dev nD) (h : p = c) (O : CellTallies nD τ sig Unit) :
    iprop(records m K ∗ ow c (O + oBar p c) ∗ dutyTok ER (cell p 0) 0 c ∗ barPay c p) ⊢ ow c O := by
  unfold oBar; rw [if_pos h, add_zero]; iintro ⟨-, HO, -⟩; iexact HO
theorem not_done (K : Dev nD × Fin 8 → ℕ) (c p : Dev nD) (h : p = c) (O : CellTallies nD τ sig Unit) :
    iprop(records m K ∗ ow c (O + oFin p c) ∗ dutyTok ER (cell p 1) 0 c) ⊢ ow c O := by
  unfold oFin; rw [if_pos h, add_zero]; iintro ⟨-, HO, -⟩; iexact HO

/-! ## A wait that takes a cell's whole round, the cell closed after it -/

/-- Device `c` waits on its own cell `i` for the whole of its round, below everything that it still owes: it gets what every
    duty of the round hands over, and the cell back at zero. -/
theorem wp_take {α : Type} (K : Dev nD × Fin 8 → ℕ) (c : Dev nD) (i : Fin 8) {Q : α → sProp 𝕄} {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (csem i) a G)
    {k : PUnit → Prog (TpuEff nD τ sig (Elt F) Λ₀ .tc) α} {O : CellTallies nD τ sig Unit}
    (ha : a = (dutiesOf c i.castSucc).card * amountOf i.castSucc) (n : ℕ) (hn : lvOf i.castSucc ≤ n) (hO : Above n O) :
    iprop(records m K ∗ levAts L lv ∗ cred (tallyAt (cell c i) () a) ∗ ow c O ∗ atPos ER (cell c i) 0 ∅ 0)
      ⊢ iprop(((ow c O ∗ semVal (cell c i) 0 ∗ bigSep (dutiesOf c i.castSucc) fun d => payOf m c d i.castSucc) -∗ wpc c (k ⟨⟩) Q)
          -∗ wpc c (.op w k) Q) := by
  unfold ow
  iintro ⟨#HR, #HL, Hc, ⟨%W, HO⟩, Hat⟩ Hk
  iapply (Rounds.wp_wait_rest_token 𝒱₀ ER (sched m) (c : Thread nD τ) none (κ := K (c, i)) (sm := csem i) (k' := a)
      hw (Set.mem_univ _) () (O := O) (W := W) (R := 0) (m := 0) (T := ∅) (by rw [Nat.zero_add, ha]; exact (expect_cell m c i).symm)) $$ [Hc HO Hat]
  · isplitr; · iapply (records_inv m K c i); iexact HR
    isplitl [Hc]; · iexact Hc
    isplitl [HO]; · iexact HO
    isplitr; · iapply (mayWait_of (F := F) c (csem i) n (by rw [idx_csem]; exact hn) hO); iexact HL
    iexact Hat
  iintro ⟨HO, Hat, -, Hpay⟩
  ihave Hp := (Entails.of_eq (rest_cell m c i)) $$ Hpay
  imod (Rounds.cell_close ER (sched m) (Set.mem_univ (K (c, i))) (fun h => h) (R := 0 + 1) (duties_later m (cell c i))) $$ [Hat] with Hz
  · isplitr; · iapply (records_inv m K c i); iexact HR
    iexact Hat
  iapply Hk
  isplitl [HO]; · iexists _; iexact HO
  isplitl [Hz]; · iexact Hz
  iexact Hp

/-- A cell with no duties is closed at once. -/
theorem close_unused (K : Dev nD × Fin 8 → ℕ) (c : Dev nD) (i : Fin 8) (h : dutiesOf c i.castSucc = ∅) :
    iprop(records m K ∗ atPos ER (cell c i) 0 ∅ 0) ⊢ iprop(|={Set.univ}=> (semVal (cell c i) 0 : sProp 𝕄)) := by
  iintro ⟨#HR, Hat⟩
  iapply (Rounds.cell_close ER (sched m) (Set.mem_univ (K (c, i))) (fun h => h) (R := 0) (duties_none m c i h))
  isplitr; · iapply (records_inv m K c i); iexact HR
  iexact Hat

/-! ## The conditions the branches test -/

theorem cond1_iff (c : Dev nD) : k0_cond1 c = 1#1 ↔ (0 : Dev nD) ≠ c := by revert c; decide
theorem cond2_iff (c : Dev nD) : k0_cond2 c = 1#1 ↔ (1 : Dev nD) ≠ c := by revert c; decide
theorem cond3_iff (c : Dev nD) : k0_cond3 c = 1#1 ↔ (2 : Dev nD) ≠ c := by revert c; decide
theorem cond4_iff (c : Dev nD) : k0_cond4 c = 1#1 ↔ (3 : Dev nD) ≠ c := by revert c; decide

/-- A whole staging or scratch buffer of device `c` at contents `f`. -/
abbrev held (c : Dev nD) (b : Ref sig .tc) (f : b.ty.Contents (Elt F)) : sProp 𝕄 := (((c : Thread nD τ).loc b) ↦{fullShare} f)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A near buffer of a device. -/
abbrev nb {cs : CoreSpace} (i : Fin (sig.nNear .tc cs)) (hκ : sig.names .tc cs i = true) : Ref sig .tc := ⟨cs, i, hκ⟩

/-- Loading a whole buffer gives its contents. -/
theorem wp_ld {α : Type} {c : Dev nD} {cs : CoreSpace} {i : Fin (sig.nNear .tc cs)} {hκ : sig.names .tc cs i = true} {off : Fin (nb i hκ).ty.shape.rank → Nat} (hz : off = fun _ => 0)
    {inb : ∀ a, off a + (nb i hκ).ty.shape.size a ≤ (nb i hκ).ty.shape.size a} {f : (nb i hκ).ty.Contents (Elt F)} {Q : α → sProp 𝕄}
    {hl : (Memref.whole (nb i hκ) : Memref sig .tc _ _ _).view.LoadsAt (Rect.unit off (nb i hκ).ty.shape.size inb).toLoadRect}
    {k : (nb i hκ).ty.Contents (Elt F) → Prog (TpuEff nD τ sig (Elt F) Λ₀ .tc) α} :
    held c (nb i hκ) f ⊢ iprop((held c (nb i hκ) f -∗ wpc c (k f) Q) -∗ wpc c (.op (.load (Memref.whole (nb i hκ)) (Rect.unit off (nb i hκ).ty.shape.size inb).toLoadRect hl) k) Q) := by
  iintro H Hk
  iapply (wp_load 𝒱₀ (c : Thread nD τ) none Set.univ (m := Memref.whole (nb i hκ)) (Finset.subset_univ _)) $$ H
  rw [Memref.readAt_unit_zero (Elt F) (nb i hκ) hz inb f]
  iexact Hk

/-- Storing a whole buffer replaces its contents. -/
theorem wp_st {α : Type} {c : Dev nD} {cs : CoreSpace} {i : Fin (sig.nNear .tc cs)} {hκ : sig.names .tc cs i = true} {off : Fin (nb i hκ).ty.shape.rank → Nat} (hz : off = fun _ => 0)
    {inb : ∀ a, off a + (nb i hκ).ty.shape.size a ≤ (nb i hκ).ty.shape.size a} {f w : (nb i hκ).ty.Contents (Elt F)} {Q : α → sProp 𝕄}
    {hx : ((Memref.whole (nb i hκ) : Memref sig .tc _ _ _).access (Rect.unit off (nb i hκ).ty.shape.size inb)).Stores Finset.univ}
    {hm : (Finset.univ : Finset (Rect.unit off (nb i hκ).ty.shape.size inb).shape.Idx) = Finset.univ ∨ ∀ a, (Rect.unit off (nb i hκ).ty.shape.size inb).stride a = 1}
    {k : PUnit → Prog (TpuEff nD τ sig (Elt F) Λ₀ .tc) α} :
    held c (nb i hκ) f ⊢ iprop((held c (nb i hκ) w -∗ wpc c (k ⟨⟩) Q) -∗ wpc c (.op (.store (Memref.whole (nb i hκ)) (Rect.unit off (nb i hκ).ty.shape.size inb) w Finset.univ hx hm) k) Q) := by
  iintro H Hk
  iapply (wp_store 𝒱₀ (c : Thread nD τ) none Set.univ (m := Memref.whole (nb i hκ)) (r := Rect.unit off (nb i hκ).ty.shape.size inb) (Mk := Finset.univ) (Finset.subset_univ _)) $$ H
  rw [Memref.write_access_unit_zero_univ (Elt F) (nb i hκ) hz inb f w]
  iexact Hk

/-- The device's own number as the body computes it. -/
abbrev myW (c : Dev nD) : BitVec 32 := Scalar.remsi (Scalar.divsi (Dev.word c) 1#32) 4#32

set_option maxHeartbeats 1000000 in
/-- The first part: a ready signal to every other device, the wait for all of theirs, the loads of `A`, `x`, `B`. -/
theorem part1 (K : Dev nD × Fin 8 → ℕ) (c : Dev nD) (Kt : _ → sProp 𝕄) (u : (cc0_scratch0 : Ref sig .tc).ty.Contents (Elt F)) :
    iprop(records m K ∗ levAts L lv ∗ ow c (oB0 c)
        ∗ (dutyTok ER (cell 0 0) 0 c ∗ dutyTok ER (cell 1 0) 0 c ∗ dutyTok ER (cell 2 0) 0 c ∗ dutyTok ER (cell 3 0) 0 c)
        ∗ (barPay c 0 ∗ barPay c 1 ∗ barPay c 2 ∗ barPay c 3)
        ∗ cred (tallyAt (cell c 0) () 3) ∗ atPos ER (cell c 0) 0 ∅ 0
        ∗ held c cc0_stg0_0 (xAt m c) ∗ held c cc0_stg1_0 (aAt m c) ∗ held c cc0_stg2_0 (bAt m c) ∗ held c cc0_scratch0 u)
      ⊢ iprop((∀ v, (ow c (oR0 c) ∗ semVal (cell c 0) 0 ∗ (bigSep (dutiesOf c 0) fun d => barPay d c)
            ∗ held c cc0_stg0_0 (xAt m c) ∗ held c cc0_stg1_0 (aAt m c) ∗ held c cc0_stg2_0 (bAt m c) ∗ held c cc0_scratch0 u)
              -∗ Kt ⟨c, myW c, k0_pay1 (aAt m c), k0_pay2 (aAt m c), k0_pay3 (xAt m c) (bAt m c), v⟩)
          -∗ wpc c (k0_part1_skel xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0) Kt) := by
  unfold k0_part1_skel wpc
  simp -zeta only [semSignalWord, semWaitWord, Prog.lift, Prog.bind_op, Prog.bind_ret, Prog.pure_eq_ret, wp_deviceId]
  iintro ⟨#HR, #HL, HO, ⟨Ht0, Ht1, Ht2, Ht3⟩, ⟨Hp0, Hp1, Hp2, Hp3⟩, Hc, Hat, Hx, Ha, Hb, Hu⟩ Hk
  iapply (wp_self c)
  iapply (wp_cut (R := ow c (oB1 c)) (w := fun p => wpc c p Kt) (fun h => wp_ready m K c 0 _ (Fin.ext rfl) ((cond1_iff c).mp h) (oB1 c) rfl)
    (fun h => not_ready m K c 0 (by by_contra hn; exact h ((cond1_iff c).mpr hn)) (oB1 c))) $$ [HO Ht0 Hp0]
  · isplitr; · iexact HR
    isplitl [HO]; · iexact HO
    isplitl [Ht0] <;> iassumption
  iintro HO
  iapply (wp_cut (R := ow c (oB2 c)) (w := fun p => wpc c p Kt) (fun h => wp_ready m K c 1 _ (Fin.ext rfl) ((cond2_iff c).mp h) (oB2 c) rfl)
    (fun h => not_ready m K c 1 (by by_contra hn; exact h ((cond2_iff c).mpr hn)) (oB2 c))) $$ [HO Ht1 Hp1]
  · isplitr; · iexact HR
    isplitl [HO]; · iexact HO
    isplitl [Ht1] <;> iassumption
  iintro HO
  iapply (wp_cut (R := ow c (oB3 c)) (w := fun p => wpc c p Kt) (fun h => wp_ready m K c 2 _ (Fin.ext rfl) ((cond3_iff c).mp h) (oB3 c) rfl)
    (fun h => not_ready m K c 2 (by by_contra hn; exact h ((cond3_iff c).mpr hn)) (oB3 c))) $$ [HO Ht2 Hp2]
  · isplitr; · iexact HR
    isplitl [HO]; · iexact HO
    isplitl [Ht2] <;> iassumption
  iintro HO
  iapply (wp_cut (R := ow c (oR0 c)) (w := fun p => wpc c p Kt) (fun h => wp_ready m K c 3 _ (Fin.ext rfl) ((cond4_iff c).mp h) (oR0 c) rfl)
    (fun h => not_ready m K c 3 (by by_contra hn; exact h ((cond4_iff c).mpr hn)) (oR0 c))) $$ [HO Ht3 Hp3]
  · isplitr; · iexact HR
    isplitl [HO]; · iexact HO
    isplitl [Ht3] <;> iassumption
  iintro HO
  iapply (wp_take m K c 0 (fun G => rfl) (a := 3) (by revert c; decide) 1 (by decide) (above_R0 c)) $$ [HO Hc Hat]
  · isplitr; · iexact HR
    isplitr; · iexact HL
    isplitl [Hc]; · iexact Hc
    isplitl [HO]; · iexact HO
    iexact Hat
  iintro ⟨HO, Hz, Hpay⟩
  dsimp only [payOf, Fin.castSucc_zero]
  iapply (wp_ld hz2) $$ Ha; iintro Ha
  iapply (wp_ld hz3) $$ Hx; iintro Hx
  iapply (wp_ld hz3) $$ Hb; iintro Hb
  iapply (wp_ld hz4) $$ Hu; iintro Hu
  unfold wpc; rw [wp_ret]; imodintro
  iapply Hk
  isplitl [HO]; · iexact HO
  isplitl [Hz]; · iexact Hz
  isplitl [Hpay]; · iexact Hpay
  isplitl [Hx]; · iexact Hx
  isplitl [Ha]; · iexact Ha
  isplitl [Hb] <;> iassumption

end Cert.Scan

end
-- ==== Proof.Scanning.lean ====
/-
The kernel's body, second part: the scan over the block's rows and the three sends of its final state.
-/
module

public import proofs.«01_k».proof.Proof.Steps

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The send buffer in three shares -/

theorem e_set : (eM : Memref sig .tc .vmem S4x16x256 .f32).view.set = Finset.univ := by
  have h := View.set_whole (sig := sig) (κ := .tc) cc0_scratch1
  exact h

omit [FloatOps F] in
/-- The send buffer splits into the shares of the three sends. -/
theorem ebuf_split (c : Dev nD) (f : (cc0_scratch1 : Ref sig .tc).ty.Contents (Elt F)) :
    (held c cc0_scratch1 f : sProp 𝕄) ⊢ iprop(ePts c 0 f ∗ ePts c 1 f ∗ ePts c 2 f) := by
  unfold ePts held; rw [e_set]
  iintro H
  ihave H := (pointsTo_share (PosShare.mem_left_op_right fullShare)).1 $$ H
  icases H with ⟨H0, H⟩
  ihave H := (pointsTo_share (PosShare.mem_left_op_right fullShare.right)).1 $$ H
  icases H with ⟨H1, H2⟩
  isplitl [H0]; · iexact H0
  isplitl [H1]; · iexact H1
  iexact H2

omit [FloatOps F] in
/-- The three shares make the whole send buffer again. -/
theorem ebuf_join (c : Dev nD) (f : (cc0_scratch1 : Ref sig .tc).ty.Contents (Elt F)) :
    iprop(ePts c 0 f ∗ ePts c 1 f ∗ ePts c 2 f) ⊢ (held c cc0_scratch1 f : sProp 𝕄) := by
  unfold ePts held; rw [e_set]
  iintro ⟨H0, H1, H2⟩
  ihave H := (pointsTo_share (PosShare.mem_left_op_right fullShare.right)).2 $$ [H1 H2]
  · isplitl [H1]; · iexact H1
    iexact H2
  iapply (pointsTo_share (PosShare.mem_left_op_right fullShare)).2
  isplitl [H0]; · iexact H0
  iexact H

/-! ## Sends -/

theorem csem_send (k : Fin 3) : (SemLoc.dma (sendS k) : SemLoc sig) = csem (sI k) := by fin_cases k <;> rfl
theorem csem_recv (k : Fin 3) : (SemLoc.dma (recvS k) : SemLoc sig) = csem (rI k) := by fin_cases k <;> rfl
theorem duties_send (c : Dev nD) (k : Fin 3) (h : c.val + k.val + 1 < 4) : dutiesOf c (sI k).castSucc = {0} := by
  revert h; revert c k; decide
theorem duties_unsent (c : Dev nD) (k : Fin 3) (h : ¬ c.val + k.val + 1 < 4) : dutiesOf c (sI k).castSucc = ∅ := by
  revert h; revert c k; decide
theorem duties_recv (c : Dev nD) (k : Fin 3) (h : k.val < c.val) : dutiesOf c (rI k).castSucc = {0} := by
  revert h; revert c k; decide
theorem duties_unreceived (c : Dev nD) (k : Fin 3) (h : ¬ k.val < c.val) : dutiesOf c (rI k).castSucc = ∅ := by
  revert h; revert c k; decide
theorem tgt_gets (c : Dev nD) (k : Fin 3) (h : c.val + k.val + 1 < 4) : k.val < (tgt c k).val := by
  revert h; revert c k; decide
theorem amount_send (k : Fin 3) : amountOf (sI k).castSucc = N := by fin_cases k <;> rfl
theorem amount_recv (k : Fin 3) : amountOf (rI k).castSucc = N := by fin_cases k <;> rfl
theorem pay_send (c d : Dev nD) (k : Fin 3) : payOf m c d (sI k).castSucc = ePts c k (hend m c) := by fin_cases k <;> rfl
theorem pay_recv (c d : Dev nD) (k : Fin 3) : payOf m c d (rI k).castSucc = slotFull m c k := by fin_cases k <;> rfl
theorem slot_amount (k : Fin 3) (s : DmaSem sig) : (rSlot k).view.amount (.dma s) = N := by fin_cases k <;> rfl

/-- The slot that send `k` writes, if device `c` makes that send. -/
def sendIn (c : Dev nD) (k : Fin 3) : sProp 𝕄 := if c.val + k.val + 1 < 4 then slotAny (tgt c k) k else iprop(emp)
/-- After send `k`: the credit to wait for it; without the send, the share of the buffer it would have read. -/
def sendOut (c : Dev nD) (k : Fin 3) : sProp 𝕄 := if c.val + k.val + 1 < 4 then cred (tallyAt (cell c (sI k)) () N) else ePts c k (hend m c)

/-- Send `k` of device `c`, addressed to `n`, which is the device `k + 1` further on. -/
theorem wp_give {α : Type} (K : Dev nD × Fin 8 → ℕ) (c n : Dev nD) (k : Fin 3) (hn : n = tgt c k) (hc : c.val + k.val + 1 < 4) {Q : α → sProp 𝕄}
    {hsc : (rSlot k : Memref sig (Dev.tc n : Thread nD τ).2.kind .vmem S4x16x256 .f32).view.ref.isScScratch = false}
    {hsrc : (eM : Memref sig .tc .vmem S4x16x256 .f32).view.WordExact} {hdst : (rSlot k).view.WordExact}
    {hsem : DmaTarget.Typed .vmem (.dma (recvS k)) (.remote (Dev.tc n : Thread nD τ) (rSlot k : Memref sig .tc .vmem S4x16x256 .f32) (.dma (sendS k)) hsc)}
    {kk : PUnit → Prog (TpuEff nD τ sig (Elt F) Λ₀ .tc) α} (O : CellTallies nD τ sig Unit) :
    iprop(records m K ∗ ow c (O + oRecv k c) ∗ sendIn c k ∗ ePts c k (hend m c) ∗ dutyTok ER (cell c (sI k)) 0 0 ∗ dutyTok ER (cell (tgt c k) (rI k)) 0 0)
      ⊢ iprop((iprop(ow c O ∗ sendOut m c k) -∗ wpc c (kk ⟨⟩) Q)
          -∗ wpc c (.op (.enqueueDma eM (.remote (Dev.tc n : Thread nD τ) (rSlot k) (.dma (sendS k)) hsc) (.dma (recvS k)) hsrc hdst hsem) kk) Q) := by
  subst hn
  unfold oRecv ow sendIn sendOut slotAny
  simp only [if_pos hc]
  iintro ⟨#HR, ⟨%W, HO⟩, ⟨%fd, Hs⟩, He, Ht, Ht'⟩ Hk
  unfold ePts slotPts
  iapply (Rounds.wp_send_pointsTo 𝒱₀ ER (sched m) (c : Thread nD τ) none (κ₁ := K (c, sI k)) (κ₂ := K (tgt c k, rI k))
    (r₁ := 0) (r₂ := 0) (d₁ := 0) (d₂ := 0) (fd := fd) (O₀ := O + tallyAt (cell (tgt c k) (rI k)) () N) (W := W)
    (by rw [csem_send, duties_cell, duties_send c k hc]; exact Finset.mem_singleton_self _)
    (by rw [csem_recv, duties_cell, duties_recv _ k (tgt_gets c k hc)]; exact Finset.mem_singleton_self _)
    () () N (slot_amount k _) (by rw [csem_send, amount_cell, amount_send]) (by rw [csem_recv, amount_cell, amount_recv])
    O (by rw [csem_recv])
    (by rw [csem_send, payload_cell, pay_send]; exact BI.Entails.refl _)
    (by
      rw [csem_recv, payload_cell, pay_recv]; unfold slotFull slotPts
      iintro H
      iexists ((rSlot k).view.write (Elt F) fd ((eM : Memref sig .tc .vmem S4x16x256 .f32).view.read (Elt F) (hend m c)) Finset.univ)
      isplitr
      · ipureintro
        rw [View.read_write_univ, src_tgt]; rfl
      iexact H)) $$ [HO Hs He Ht Ht']
  · rw [csem_send, csem_recv]
    isplitr; · iapply (records_inv m K c (sI k)); iexact HR
    isplitr; · iapply (records_inv m K (tgt c k) (rI k)); iexact HR
    isplitl [He]; · iexact He
    isplitl [Hs]; · iexact Hs
    isplitl [HO]; · iexact HO
    isplitl [Ht]; · iexact Ht
    isplitr; · iapply (records_reached m K c (sI k)); iexact HR
    isplitl [Ht']; · iexact Ht'
    iapply (records_reached m K (tgt c k) (rI k)); iexact HR
  rw [csem_send]
  iintro ⟨Hc, HO⟩
  iapply Hk
  isplitl [HO]; · iexists W; iexact HO
  iexact Hc

theorem not_given (K : Dev nD × Fin 8 → ℕ) (c : Dev nD) (k : Fin 3) (hc : ¬ c.val + k.val + 1 < 4) (O : CellTallies nD τ sig Unit) :
    iprop(records m K ∗ ow c (O + oRecv k c) ∗ sendIn c k ∗ ePts c k (hend m c) ∗ dutyTok ER (cell c (sI k)) 0 0 ∗ dutyTok ER (cell (tgt c k) (rI k)) 0 0)
      ⊢ iprop(ow c O ∗ sendOut m c k) := by
  unfold oRecv sendOut; simp only [if_neg hc]; rw [add_zero]
  iintro ⟨-, HO, -, He, -, -⟩
  isplitl [HO] <;> iassumption

theorem cond5_iff (c : Dev nD) : k0_cond5 c = 1#1 ↔ c.val + (0 : Fin 3).val + 1 < 4 := by revert c; decide
theorem cond6_iff (c : Dev nD) : k0_cond6 c = 1#1 ↔ c.val + (1 : Fin 3).val + 1 < 4 := by revert c; decide
theorem cond7_iff (c : Dev nD) : k0_cond7 c = 1#1 ↔ c.val + (2 : Fin 3).val + 1 < 4 := by revert c; decide
theorem dev5_eq (c : Dev nD) (h : c.val + (0 : Fin 3).val + 1 < 4) (p) : (⟨k0_dev5 c, p⟩ : Dev nD) = tgt c 0 :=
  Fin.ext ((show ∀ c : Dev nD, c.val + (0 : Fin 3).val + 1 < 4 → k0_dev5 c = (tgt c 0).val by decide) c h)
theorem dev6_eq (c : Dev nD) (h : c.val + (1 : Fin 3).val + 1 < 4) (p) : (⟨k0_dev6 c, p⟩ : Dev nD) = tgt c 1 :=
  Fin.ext ((show ∀ c : Dev nD, c.val + (1 : Fin 3).val + 1 < 4 → k0_dev6 c = (tgt c 1).val by decide) c h)
theorem dev7_eq (c : Dev nD) (h : c.val + (2 : Fin 3).val + 1 < 4) (p) : (⟨k0_dev7 c, p⟩ : Dev nD) = tgt c 2 :=
  Fin.ext ((show ∀ c : Dev nD, c.val + (2 : Fin 3).val + 1 < 4 → k0_dev7 c = (tgt c 2).val by decide) c h)

/-! ## The scan -/

/-- What holds before trip `t`: the carried state and the scan buffer are those of `t` trips. -/
abbrev scanInv (c : Dev nD) (t : ℕ) (acc : FVec F S4x16x256 .f32) : sProp 𝕄 :=
  iprop(⌜acc = (scanAt m c t).1⌝ ∗ held c cc0_scratch0 (scanAt m c t).2)

/-- One trip of the scan. -/
theorem scan_trip (c : Dev nD) (v : Vec F S4x256x16x256 .f32) (t : Fin k0_t1_loop.trips) (acc : FVec F S4x16x256 .f32) :
    scanInv m c t.val acc ⊢ wpc c (k0_t1_body xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0 c (myW c) (k0_pay2 (aAt m c)) (k0_pay3 (xAt m c) (bAt m c)) v t acc) (scanInv m c (t.val + 1)) := by
  unfold k0_t1_body wpc scanInv
  simp -zeta only [Prog.lift, Prog.bind_op, Prog.bind_ret, Prog.pure_eq_ret]
  iintro ⟨%hacc, Hu⟩
  subst hacc
  iapply (wp_load 𝒱₀ (c : Thread nD τ) none Set.univ (m := uM) (Finset.subset_univ _)) $$ Hu; iintro Hu
  iapply (wp_load 𝒱₀ (c : Thread nD τ) none Set.univ (m := uM) (Finset.subset_univ _)) $$ Hu; iintro Hu
  iapply (wp_store 𝒱₀ (c : Thread nD τ) none Set.univ (m := uM) (r := rowRect t) (Mk := Finset.univ) (Finset.subset_univ _)) $$ Hu; iintro Hu
  rw [wp_ret]; imodintro
  have e : scanAt m c (t.val + 1) = (k0_pay6 (k0_pay2 (aAt m c)) (scanAt m c t.val).1 ((uM : Memref sig .tc .vmem S4x256x16x256 .f32).view.readAt (Elt F) (rowRect t).toLoadRect (scanAt m c t.val).2),
        ((uM : Memref sig .tc .vmem S4x256x16x256 .f32).access (rowRect t) : View sig .tc _ _ _).write (Elt F) (scanAt m c t.val).2
          (k0_pay7 (k0_pay2 (aAt m c)) (scanAt m c t.val).1 ((uM : Memref sig .tc .vmem S4x256x16x256 .f32).view.readAt (Elt F) (rowRect t).toLoadRect (scanAt m c t.val).2)) Finset.univ) :=
    dif_pos t.isLt
  rw [e]
  isplitr; · (ipureintro; rfl)
  iexact Hu

set_option maxHeartbeats 1000000 in
/-- The second part: the scan, and its final state sent to the devices further on. -/
theorem part2 (K : Dev nD × Fin 8 → ℕ) (c : Dev nD) (Kt : PUnit → sProp 𝕄) (u e v) :
    iprop(records m K ∗ ow c (oR0 c) ∗ (sendIn c 0 ∗ sendIn c 1 ∗ sendIn c 2)
        ∗ (dutyTok ER (cell c 2) 0 0 ∗ dutyTok ER (cell c 3) 0 0 ∗ dutyTok ER (cell c 4) 0 0)
        ∗ (dutyTok ER (cell (tgt c 0) 5) 0 0 ∗ dutyTok ER (cell (tgt c 1) 6) 0 0 ∗ dutyTok ER (cell (tgt c 2) 7) 0 0)
        ∗ held c cc0_scratch0 u ∗ held c cc0_scratch1 e)
      ⊢ iprop((iprop(ow c (oF0 c) ∗ (sendOut m c 0 ∗ sendOut m c 1 ∗ sendOut m c 2) ∗ held c cc0_scratch0 (scanAt m c k0_t1_loop.trips).2) -∗ Kt ⟨⟩)
          -∗ wpc c (k0_part2_skel xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0 c (myW c) (k0_pay2 (aAt m c)) (k0_pay3 (xAt m c) (bAt m c)) v) Kt) := by
  unfold k0_part2_skel wpc
  simp -zeta only [semSignalWord, semWaitWord, Prog.lift, Prog.bind_op, Prog.bind_ret, Prog.pure_eq_ret]
  iintro ⟨#HR, HO, ⟨Hi0, Hi1, Hi2⟩, ⟨Hs0, Hs1, Hs2⟩, ⟨Hr0, Hr1, Hr2⟩, Hu, He⟩ Hk
  iapply (wp_st hz4) $$ Hu; iintro Hu
  iapply (Scf.wp_for_bind frame (wpE (defs₀ (F := F)) 𝒱₀ (c : Thread nD τ) none) Set.univ _ _ _ k0_t1_ok _ _ (scanInv m c) (scan_trip m c v)) $$ [Hu]
  · isplitr; · (ipureintro; rfl)
    iexact Hu
  iintro %acc ⟨%hacc, Hu⟩
  subst hacc
  iapply (wp_ld hz3) $$ He; iintro He
  iapply (wp_st hz3) $$ He; iintro He
  ihave He := (ebuf_split c _) $$ He
  icases He with ⟨He0, He1, He2⟩
  iapply (wp_cut (R := iprop(ow c (oR1 c) ∗ sendOut m c 0)) (w := fun p => wpc c p Kt)
    (fun h => wp_give m K c _ 0 (dev5_eq c ((cond5_iff c).mp h) _) ((cond5_iff c).mp h) (oR1 c))
    (fun h => not_given m K c 0 (fun hc => h ((cond5_iff c).mpr hc)) (oR1 c))) $$ [HO Hi0 He0 Hs0 Hr0]
  · isplitr; · iexact HR
    isplitl [HO]; · iexact HO
    isplitl [Hi0]; · iexact Hi0
    isplitl [He0]; · iexact He0
    isplitl [Hs0] <;> iassumption
  iintro ⟨HO, Ho0⟩
  iapply (wp_cut (R := iprop(ow c (oR2 c) ∗ sendOut m c 1)) (w := fun p => wpc c p Kt)
    (fun h => wp_give m K c _ 1 (dev6_eq c ((cond6_iff c).mp h) _) ((cond6_iff c).mp h) (oR2 c))
    (fun h => not_given m K c 1 (fun hc => h ((cond6_iff c).mpr hc)) (oR2 c))) $$ [HO Hi1 He1 Hs1 Hr1]
  · isplitr; · iexact HR
    isplitl [HO]; · iexact HO
    isplitl [Hi1]; · iexact Hi1
    isplitl [He1]; · iexact He1
    isplitl [Hs1] <;> iassumption
  iintro ⟨HO, Ho1⟩
  iapply (wp_cut (R := iprop(ow c (oF0 c) ∗ sendOut m c 2)) (w := fun p => wpc c p Kt)
    (fun h => wp_give m K c _ 2 (dev7_eq c ((cond7_iff c).mp h) _) ((cond7_iff c).mp h) (oF0 c))
    (fun h => not_given m K c 2 (fun hc => h ((cond7_iff c).mpr hc)) (oF0 c))) $$ [HO Hi2 He2 Hs2 Hr2]
  · isplitr; · iexact HR
    isplitl [HO]; · iexact HO
    isplitl [Hi2]; · iexact Hi2
    isplitl [He2]; · iexact He2
    isplitl [Hs2] <;> iassumption
  iintro ⟨HO, Ho2⟩
  unfold wpc; rw [wp_ret]; imodintro
  iapply Hk
  isplitl [HO]; · iexact HO
  isplitr [Hu]
  · isplitl [Ho0]; · iexact Ho0
    isplitl [Ho1] <;> iassumption
  iexact Hu

end Cert.Scan

end
-- ==== Proof.Carrying.lean ====
/-
The kernel's body, third and fourth parts and its end: the block's own output, the states received and added to the
carry, the carry's share of the output, the sends waited for, and the closing signals.
-/
module

public import proofs.«01_k».proof.Proof.Scanning

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A branch that either runs `A` and goes on, or goes on at once: `R` holds, after an update, when going on. -/
theorem wp_cut' {α : Type} {c : Dev nD} {Q : α → sProp 𝕄} {cd : Prop} [Decidable cd] {jp : Prog (TpuEff nD τ sig (Elt F) Λ₀ .tc) α}
    {A : cd → Prog (TpuEff nD τ sig (Elt F) Λ₀ .tc) α} {P R : sProp 𝕄}
    (h1 : ∀ h : cd, P ⊢ iprop((R -∗ wpc c jp Q) -∗ wpc c (A h) Q)) (h2 : ¬ cd → P ⊢ iprop(|={Set.univ}=> R)) :
    P ⊢ iprop((R -∗ wpc c jp Q) -∗ wpc c (dite cd A fun _ => jp) Q) := by
  by_cases h : cd
  · rw [dif_pos h]; exact h1 h
  · rw [dif_neg h]
    iintro HP Hk
    imod (h2 h) $$ HP with HR
    iapply Hk; iexact HR

/-! ## Receives -/

/-- What device `c` brings to receive `k`: the credit when a state is coming, the slot itself when none is. -/
def recvIn (c : Dev nD) (k : Fin 3) : sProp 𝕄 :=
  if k.val < c.val then cred (tallyAt (cell c (rI k)) () N) else slotAny c k

theorem cond8_iff (c : Dev nD) : Scalar.cmpi .ne (Scalar.extui (Scalar.cmpi .sgt (myW c) 0#32) : BitVec 32) 0#32 = 1#1 ↔ (0 : Fin 3).val < c.val := by revert c; decide
theorem cond9_iff (c : Dev nD) : Scalar.cmpi .ne (Scalar.extui (Scalar.cmpi .sgt (myW c) 1#32) : BitVec 32) 0#32 = 1#1 ↔ (1 : Fin 3).val < c.val := by revert c; decide
theorem cond10_iff (c : Dev nD) : Scalar.cmpi .ne (Scalar.extui (Scalar.cmpi .sgt (myW c) 2#32) : BitVec 32) 0#32 = 1#1 ↔ (2 : Fin 3).val < c.val := by revert c; decide

/-- A load of slot `k` reads the slot's elements. -/
theorem slot_set0 : ((rSlot 0).view.set : Finset (rM : Memref sig .tc .vmem S3x4x16x256 .f32).view.ty.Idx) = (rM : Memref sig .tc .vmem S3x4x16x256 .f32).view.setOn (slotRect 0).set :=
  (Memref.set_view_squeeze _ squeezes_S1x4x16x256_S4x16x256).trans (View.set_slice _ _)
theorem slot_set1 : ((rSlot 1).view.set : Finset (rM : Memref sig .tc .vmem S3x4x16x256 .f32).view.ty.Idx) = (rM : Memref sig .tc .vmem S3x4x16x256 .f32).view.setOn (slotRect 1).set :=
  (Memref.set_view_squeeze _ squeezes_S1x4x16x256_S4x16x256).trans (View.set_slice _ _)
theorem slot_set2 : ((rSlot 2).view.set : Finset (rM : Memref sig .tc .vmem S3x4x16x256 .f32).view.ty.Idx) = (rM : Memref sig .tc .vmem S3x4x16x256 .f32).view.setOn (slotRect 2).set :=
  (Memref.set_view_squeeze _ squeezes_S1x4x16x256_S4x16x256).trans (View.set_slice _ _)

/-- The wait of receive `k`: the slot comes back holding the state sent. -/
theorem wp_got {α : Type} (K : Dev nD × Fin 8 → ℕ) (c : Dev nD) (k : Fin 3) (hc : k.val < c.val) {Q : α → sProp 𝕄}
    {h1 : (eM : Memref sig .tc .vmem S4x16x256 .f32).view.WordExact} {h2 : (rSlot k).view.WordExact}
    {kk : PUnit → Prog (TpuEff nD τ sig (Elt F) Λ₀ .tc) α} :
    iprop(records m K ∗ levAts L lv ∗ ow c (oF0 c) ∗ recvIn c k ∗ atPos ER (cell c (rI k)) 0 ∅ 0)
      ⊢ iprop((iprop(ow c (oF0 c) ∗ semVal (cell c (rI k)) 0 ∗ slotFull m c k) -∗ wpc c (kk ⟨⟩) Q)
          -∗ wpc c (.op (.waitDma2 (recvS k) eM (rSlot k) h1 h2) kk) Q) := by
  unfold recvIn; rw [if_pos hc]
  iintro ⟨#HR, #HL, HO, Hc, Hat⟩ Hk
  iapply (wp_take m K c (rI k) (a := N) (fun G => by
      have e : csem (rI k) = .dma (recvS k) := (csem_recv k).symm
      rw [e]; fin_cases k <;> rfl)
    (by rw [duties_recv c k hc, Finset.card_singleton, one_mul, amount_recv]) 2 (by fin_cases k <;> decide) (above_F0 c)) $$ [HO Hc Hat]
  · isplitr; · iexact HR
    isplitr; · iexact HL
    isplitl [Hc]; · iexact Hc
    isplitl [HO]; · iexact HO
    iexact Hat
  rw [duties_recv c k hc, bigSep_singleton, pay_recv]
  iexact Hk

/-- Without receive `k` its cell closes and the slot stays. -/
theorem not_got (K : Dev nD × Fin 8 → ℕ) (c : Dev nD) (k : Fin 3) (hc : ¬ k.val < c.val) (acc : (cc0_scratch3 : Ref sig .tc).ty.Contents (Elt F)) :
    iprop(records m K ∗ levAts L lv ∗ ow c (oF0 c) ∗ recvIn c k ∗ atPos ER (cell c (rI k)) 0 ∅ 0 ∗ held c cc0_scratch3 acc)
      ⊢ iprop(|={Set.univ}=> iprop(ow c (oF0 c) ∗ semVal (cell c (rI k)) 0 ∗ slotAny c k ∗ held c cc0_scratch3 (carryStep m c k acc))) := by
  unfold recvIn carryStep; rw [if_neg hc, if_neg hc]
  iintro ⟨#HR, -, HO, Hs, Hat, Hh⟩
  imod (close_unused m K c (rI k) (duties_unreceived c k hc)) $$ [Hat] with Hz
  · isplitr; · iexact HR
    iexact Hat
  imodintro
  isplitl [HO]; · iexact HO
  isplitl [Hz]; · iexact Hz
  isplitl [Hs] <;> iassumption

/-- Receive 0: the wait, and the state added to the carry. -/
theorem recv0 {α : Type} (K : Dev nD × Fin 8 → ℕ) (c : Dev nD) (hc : (0 : Fin 3).val < c.val) {Q : α → sProp 𝕄} (acc : (cc0_scratch3 : Ref sig .tc).ty.Contents (Elt F))
    {jp : Prog (TpuEff nD τ sig (Elt F) Λ₀ .tc) α} {h1 h2 l1 l2 l3 s1 s2} :
    iprop(records m K ∗ levAts L lv ∗ ow c (oF0 c) ∗ recvIn c 0 ∗ atPos ER (cell c 5) 0 ∅ 0 ∗ held c cc0_scratch3 acc)
      ⊢ iprop((iprop(ow c (oF0 c) ∗ semVal (cell c 5) 0 ∗ slotAny c 0 ∗ held c cc0_scratch3 (carryStep m c 0 acc)) -∗ wpc c jp Q)
          -∗ wpc c (.op (.waitDma2 (recvS 0) eM (rSlot 0) h1 h2) fun _ =>
              .op (.load hM (Rect.unit (s := S4x16x256) ![0, 0, 0] S4x16x256.size inb_S4x16x256_S4x16x256_0_0_0).toLoadRect l1) fun v118 =>
              .op (.load rM (slotRect 0).toLoadRect l2) fun v119 =>
              .op (.load hM (Rect.unit (s := S4x16x256) ![0, 0, 0] S4x16x256.size inb_S4x16x256_S4x16x256_0_0_0).toLoadRect l3) fun _ =>
              .op (.store hM (Rect.unit (s := S4x16x256) ![0, 0, 0] S4x16x256.size inb_S4x16x256_S4x16x256_0_0_0) (k0_pay11 (k0_pay1 (aAt m c)) v118 v119) Finset.univ s1 s2) fun _ => jp) Q) := by
  iintro ⟨#HR, #HL, HO, Hi, Hat, Hh⟩ Hk
  iapply (wp_got m K c 0 hc) $$ [HO Hi Hat]
  · isplitr; · iexact HR
    isplitr; · iexact HL
    isplitl [HO]; · iexact HO
    isplitl [Hi] <;> iassumption
  unfold slotFull slotPts
  iintro ⟨HO, Hz, %f, %hf, Hs⟩
  iapply (wp_ld hz3) $$ Hh; iintro Hh
  iapply (wp_load 𝒱₀ (c : Thread nD τ) none Set.univ (m := rM) (r := (slotRect 0).toLoadRect) (S := (rSlot 0).view.set)
    (slot_set0).ge) $$ Hs; iintro Hs
  iapply (wp_ld hz3) $$ Hh; iintro Hh
  iapply (wp_st hz3) $$ Hh; iintro Hh
  iapply Hk
  isplitl [HO]; · iexact HO
  isplitl [Hz]; · iexact Hz
  isplitl [Hs]; · unfold slotAny slotPts; iexists f; iexact Hs
  have e : carryStep m c 0 acc = k0_pay11 (k0_pay1 (aAt m c)) acc ((rM : Memref sig .tc .vmem S3x4x16x256 .f32).view.readAt (Elt F) (slotRect 0).toLoadRect f) := by
    unfold carryStep; rw [if_pos hc, ← hf]; rfl
  rw [e]; iexact Hh

/-- Receive 1: the wait, and the state added to the carry. -/
theorem recv1 {α : Type} (K : Dev nD × Fin 8 → ℕ) (c : Dev nD) (hc : (1 : Fin 3).val < c.val) {Q : α → sProp 𝕄} (acc : (cc0_scratch3 : Ref sig .tc).ty.Contents (Elt F))
    {jp : Prog (TpuEff nD τ sig (Elt F) Λ₀ .tc) α} {h1 h2 l1 l2 l3 s1 s2} :
    iprop(records m K ∗ levAts L lv ∗ ow c (oF0 c) ∗ recvIn c 1 ∗ atPos ER (cell c 6) 0 ∅ 0 ∗ held c cc0_scratch3 acc)
      ⊢ iprop((iprop(ow c (oF0 c) ∗ semVal (cell c 6) 0 ∗ slotAny c 1 ∗ held c cc0_scratch3 (carryStep m c 1 acc)) -∗ wpc c jp Q)
          -∗ wpc c (.op (.waitDma2 (recvS 1) eM (rSlot 1) h1 h2) fun _ =>
              .op (.load hM (Rect.unit (s := S4x16x256) ![0, 0, 0] S4x16x256.size inb_S4x16x256_S4x16x256_0_0_0).toLoadRect l1) fun v118 =>
              .op (.load rM (slotRect 1).toLoadRect l2) fun v119 =>
              .op (.load hM (Rect.unit (s := S4x16x256) ![0, 0, 0] S4x16x256.size inb_S4x16x256_S4x16x256_0_0_0).toLoadRect l3) fun _ =>
              .op (.store hM (Rect.unit (s := S4x16x256) ![0, 0, 0] S4x16x256.size inb_S4x16x256_S4x16x256_0_0_0) (k0_pay12 (k0_pay1 (aAt m c)) v118 v119) Finset.univ s1 s2) fun _ => jp) Q) := by
  iintro ⟨#HR, #HL, HO, Hi, Hat, Hh⟩ Hk
  iapply (wp_got m K c 1 hc) $$ [HO Hi Hat]
  · isplitr; · iexact HR
    isplitr; · iexact HL
    isplitl [HO]; · iexact HO
    isplitl [Hi] <;> iassumption
  unfold slotFull slotPts
  iintro ⟨HO, Hz, %f, %hf, Hs⟩
  iapply (wp_ld hz3) $$ Hh; iintro Hh
  iapply (wp_load 𝒱₀ (c : Thread nD τ) none Set.univ (m := rM) (r := (slotRect 1).toLoadRect) (S := (rSlot 1).view.set)
    (slot_set1).ge) $$ Hs; iintro Hs
  iapply (wp_ld hz3) $$ Hh; iintro Hh
  iapply (wp_st hz3) $$ Hh; iintro Hh
  iapply Hk
  isplitl [HO]; · iexact HO
  isplitl [Hz]; · iexact Hz
  isplitl [Hs]; · unfold slotAny slotPts; iexists f; iexact Hs
  have e : carryStep m c 1 acc = k0_pay12 (k0_pay1 (aAt m c)) acc ((rM : Memref sig .tc .vmem S3x4x16x256 .f32).view.readAt (Elt F) (slotRect 1).toLoadRect f) := by
    unfold carryStep; rw [if_pos hc, ← hf]; rfl
  rw [e]; iexact Hh

/-- Receive 2: the wait, and the state added to the carry. -/
theorem recv2 {α : Type} (K : Dev nD × Fin 8 → ℕ) (c : Dev nD) (hc : (2 : Fin 3).val < c.val) {Q : α → sProp 𝕄} (acc : (cc0_scratch3 : Ref sig .tc).ty.Contents (Elt F))
    {jp : Prog (TpuEff nD τ sig (Elt F) Λ₀ .tc) α} {h1 h2 l1 l2 l3 s1 s2} :
    iprop(records m K ∗ levAts L lv ∗ ow c (oF0 c) ∗ recvIn c 2 ∗ atPos ER (cell c 7) 0 ∅ 0 ∗ held c cc0_scratch3 acc)
      ⊢ iprop((iprop(ow c (oF0 c) ∗ semVal (cell c 7) 0 ∗ slotAny c 2 ∗ held c cc0_scratch3 (carryStep m c 2 acc)) -∗ wpc c jp Q)
          -∗ wpc c (.op (.waitDma2 (recvS 2) eM (rSlot 2) h1 h2) fun _ =>
              .op (.load hM (Rect.unit (s := S4x16x256) ![0, 0, 0] S4x16x256.size inb_S4x16x256_S4x16x256_0_0_0).toLoadRect l1) fun v118 =>
              .op (.load rM (slotRect 2).toLoadRect l2) fun v119 =>
              .op (.load hM (Rect.unit (s := S4x16x256) ![0, 0, 0] S4x16x256.size inb_S4x16x256_S4x16x256_0_0_0).toLoadRect l3) fun _ =>
              .op (.store hM (Rect.unit (s := S4x16x256) ![0, 0, 0] S4x16x256.size inb_S4x16x256_S4x16x256_0_0_0) (k0_pay13 (k0_pay1 (aAt m c)) v118 v119) Finset.univ s1 s2) fun _ => jp) Q) := by
  iintro ⟨#HR, #HL, HO, Hi, Hat, Hh⟩ Hk
  iapply (wp_got m K c 2 hc) $$ [HO Hi Hat]
  · isplitr; · iexact HR
    isplitr; · iexact HL
    isplitl [HO]; · iexact HO
    isplitl [Hi] <;> iassumption
  unfold slotFull slotPts
  iintro ⟨HO, Hz, %f, %hf, Hs⟩
  iapply (wp_ld hz3) $$ Hh; iintro Hh
  iapply (wp_load 𝒱₀ (c : Thread nD τ) none Set.univ (m := rM) (r := (slotRect 2).toLoadRect) (S := (rSlot 2).view.set)
    (slot_set2).ge) $$ Hs; iintro Hs
  iapply (wp_ld hz3) $$ Hh; iintro Hh
  iapply (wp_st hz3) $$ Hh; iintro Hh
  iapply Hk
  isplitl [HO]; · iexact HO
  isplitl [Hz]; · iexact Hz
  isplitl [Hs]; · unfold slotAny slotPts; iexists f; iexact Hs
  have e : carryStep m c 2 acc = k0_pay13 (k0_pay1 (aAt m c)) acc ((rM : Memref sig .tc .vmem S3x4x16x256 .f32).view.readAt (Elt F) (slotRect 2).toLoadRect f) := by
    unfold carryStep; rw [if_pos hc, ← hf]; rfl
  rw [e]; iexact Hh

/-! ## The slots handed over at the barrier -/

omit [FloatOps F] in
/-- What the barrier hands a device is the slots its sends write. -/
theorem bar_slots (c : Dev nD) : (bigSep (dutiesOf c 0) fun d => barPay (F := F) d c) ⊢ iprop(sendIn c 0 ∗ sendIn c 1 ∗ sendIn c 2) := by
  have get : ∀ (c d : Dev nD) (k : Fin 3), c.val + k.val + 1 < 4 → d = tgt c k → (barPay (F := F) d c ⊢ sendIn c k) := fun c d k h e => by
    subst e
    unfold barPay sendIn
    rw [if_pos h, if_pos ((show ∀ (c : Dev nD) (k : Fin 3), c.val + k.val + 1 < 4 → c.val < (tgt c k).val by decide) c k h),
      (show ∀ (c : Dev nD) (k : Fin 3), c.val + k.val + 1 < 4 → slotOf c (tgt c k) = k by decide) c k h]
  have idle : ∀ (c : Dev nD) (k : Fin 3), ¬ c.val + k.val + 1 < 4 → ((iprop(emp) : sProp 𝕄) ⊢ sendIn (F := F) c k) := fun c k h => by
    unfold sendIn; rw [if_neg h]
  have three : ∀ a b d : Dev nD, a ≠ b → a ≠ d → b ≠ d → ∀ c, dutiesOf c 0 = {a, b, d} →
      ((bigSep (dutiesOf c 0) fun d => barPay (F := F) d c) ⊢ iprop(barPay a c ∗ barPay b c ∗ barPay d c)) := fun a b d h1 h2 h3 c e => by
    rw [e, bigSep_insert (by simp [h1, h2]), bigSep_insert (by simp [h3]), bigSep_singleton]
    exact BI.Entails.refl _
  obtain rfl | rfl | rfl | rfl : c = 0 ∨ c = 1 ∨ c = 2 ∨ c = 3 := by revert c; decide
  · refine (three 1 2 3 (by decide) (by decide) (by decide) 0 (by decide)).trans ?_
    iintro ⟨H1, H2, H3⟩
    isplitl [H1]; · iapply (get 0 1 0 (by decide) (by decide)); iexact H1
    isplitl [H2]; · iapply (get 0 2 1 (by decide) (by decide)); iexact H2
    iapply (get 0 3 2 (by decide) (by decide)); iexact H3
  · refine (three 0 2 3 (by decide) (by decide) (by decide) 1 (by decide)).trans ?_
    iintro ⟨-, H2, H3⟩
    isplitl [H2]; · iapply (get 1 2 0 (by decide) (by decide)); iexact H2
    isplitl [H3]; · iapply (get 1 3 1 (by decide) (by decide)); iexact H3
    iapply (idle 1 2 (by decide)); iempintro
  · refine (three 0 1 3 (by decide) (by decide) (by decide) 2 (by decide)).trans ?_
    iintro ⟨-, -, H3⟩
    isplitl [H3]; · iapply (get 2 3 0 (by decide) (by decide)); iexact H3
    isplitr
    · iapply (idle 2 1 (by decide)); iempintro
    · iapply (idle 2 2 (by decide)); iempintro
  · iintro -
    isplitr; · iapply (idle 3 0 (by decide)); iempintro
    isplitr
    · iapply (idle 3 1 (by decide)); iempintro
    · iapply (idle 3 2 (by decide)); iempintro

set_option maxHeartbeats 1000000 in
/-- The third part: the block's own output, and the carry. -/
theorem part3 (K : Dev nD × Fin 8 → ℕ) (c : Dev nD) (Kt : _ → sProp 𝕄) (o h) :
    iprop(records m K ∗ levAts L lv ∗ ow c (oF0 c) ∗ (recvIn c 0 ∗ recvIn c 1 ∗ recvIn c 2)
        ∗ (atPos ER (cell c 5) 0 ∅ 0 ∗ atPos ER (cell c 6) 0 ∅ 0 ∗ atPos ER (cell c 7) 0 ∅ 0)
        ∗ held c cc0_scratch0 (scanAt m c k0_t1_loop.trips).2 ∗ held c cc0_stg3_0 (cAt m c) ∗ held c cc0_stg4_0 o ∗ held c cc0_scratch3 h)
      ⊢ iprop((iprop(ow c (oF0 c) ∗ (semVal (cell c 5) 0 ∗ semVal (cell c 6) 0 ∗ semVal (cell c 7) 0) ∗ (slotAny c 0 ∗ slotAny c 1 ∗ slotAny c 2)
            ∗ held c cc0_scratch0 (scanAt m c k0_t1_loop.trips).2 ∗ held c cc0_stg3_0 (cAt m c) ∗ held c cc0_stg4_0 (ownOut m c) ∗ held c cc0_scratch3 (carryAt m c))
              -∗ Kt ⟨k0_pay14 (carryAt m c), k0_pay15 (k0_pay1 (aAt m c))⟩)
          -∗ wpc c (k0_part3_skel xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0 (myW c) (k0_pay1 (aAt m c))) Kt) := by
  unfold k0_part3_skel wpc
  simp -zeta only [semSignalWord, semWaitWord, Prog.lift, Prog.bind_op, Prog.bind_ret, Prog.pure_eq_ret]
  iintro ⟨#HR, #HL, HO, ⟨Hi0, Hi1, Hi2⟩, ⟨Ha0, Ha1, Ha2⟩, Hu, Hc, Ho, Hh⟩ Hk
  iapply (wp_ld hz4) $$ Hu; iintro Hu
  iapply (wp_ld hz3) $$ Hc; iintro Hc
  iapply (wp_ld hz3) $$ Ho; iintro Ho
  iapply (wp_st hz3) $$ Ho; iintro Ho
  iapply (wp_ld hz3) $$ Hh; iintro Hh
  iapply (wp_st hz3) $$ Hh; iintro Hh
  iapply (wp_cut' (R := iprop(ow c (oF0 c) ∗ semVal (cell c 5) 0 ∗ slotAny c 0 ∗ held c cc0_scratch3 (carryStep m c 0 k0_pay10)))
    (fun h => recv0 m K c ((cond8_iff c).mp h) k0_pay10)
    (fun h => not_got m K c 0 (fun hc => h ((cond8_iff c).mpr hc)) k0_pay10)) $$ [HO Hi0 Ha0 Hh]
  · isplitr; · iexact HR
    isplitr; · iexact HL
    isplitl [HO]; · iexact HO
    isplitl [Hi0]; · iexact Hi0
    isplitl [Ha0]; · iexact Ha0
    iexact Hh
  iintro ⟨HO, Hz0, Hs0, Hh⟩
  iapply (wp_cut' (R := iprop(ow c (oF0 c) ∗ semVal (cell c 6) 0 ∗ slotAny c 1 ∗ held c cc0_scratch3 (carryStep m c 1 (carryStep m c 0 k0_pay10))))
    (fun h => recv1 m K c ((cond9_iff c).mp h) (carryStep m c 0 k0_pay10))
    (fun h => not_got m K c 1 (fun hc => h ((cond9_iff c).mpr hc)) (carryStep m c 0 k0_pay10))) $$ [HO Hi1 Ha1 Hh]
  · isplitr; · iexact HR
    isplitr; · iexact HL
    isplitl [HO]; · iexact HO
    isplitl [Hi1]; · iexact Hi1
    isplitl [Ha1]; · iexact Ha1
    iexact Hh
  iintro ⟨HO, Hz1, Hs1, Hh⟩
  iapply (wp_cut' (R := iprop(ow c (oF0 c) ∗ semVal (cell c 7) 0 ∗ slotAny c 2 ∗ held c cc0_scratch3 (carryAt m c)))
    (fun h => recv2 m K c ((cond10_iff c).mp h) (carryStep m c 1 (carryStep m c 0 k0_pay10)))
    (fun h => not_got m K c 2 (fun hc => h ((cond10_iff c).mpr hc)) (carryStep m c 1 (carryStep m c 0 k0_pay10)))) $$ [HO Hi2 Ha2 Hh]
  · isplitr; · iexact HR
    isplitr; · iexact HL
    isplitl [HO]; · iexact HO
    isplitl [Hi2]; · iexact Hi2
    isplitl [Ha2]; · iexact Ha2
    iexact Hh
  iintro ⟨HO, Hz2, Hs2, Hh⟩
  iapply (wp_ld hz3) $$ Hh; iintro Hh
  unfold wpc; rw [wp_ret]; imodintro
  iapply Hk
  isplitl [HO]; · iexact HO
  isplitl [Hz0 Hz1 Hz2]
  · isplitl [Hz0]; · iexact Hz0
    isplitl [Hz1] <;> iassumption
  isplitl [Hs0 Hs1 Hs2]
  · isplitl [Hs0]; · iexact Hs0
    isplitl [Hs1] <;> iassumption
  isplitl [Hu]; · iexact Hu
  isplitl [Hc]; · iexact Hc
  isplitl [Ho]; · iexact Ho
  iexact Hh

/-! ## The sends waited for -/

theorem cond11_iff (c : Dev nD) : Scalar.cmpi .ne (Scalar.extui (Scalar.cmpi .slt (Scalar.addi (myW c) 1#32) 4#32) : BitVec 32) 0#32 = 1#1 ↔ c.val + (0 : Fin 3).val + 1 < 4 := by revert c; decide
theorem cond12_iff (c : Dev nD) : Scalar.cmpi .ne (Scalar.extui (Scalar.cmpi .slt (Scalar.addi (myW c) 2#32) 4#32) : BitVec 32) 0#32 = 1#1 ↔ c.val + (1 : Fin 3).val + 1 < 4 := by revert c; decide
theorem cond13_iff (c : Dev nD) : Scalar.cmpi .ne (Scalar.extui (Scalar.cmpi .slt (Scalar.addi (myW c) 3#32) 4#32) : BitVec 32) 0#32 = 1#1 ↔ c.val + (2 : Fin 3).val + 1 < 4 := by revert c; decide

/-- The wait for send `k`: its share of the send buffer comes back. -/
theorem wp_sent {α : Type} (K : Dev nD × Fin 8 → ℕ) (c : Dev nD) (k : Fin 3) (hc : c.val + k.val + 1 < 4) {Q : α → sProp 𝕄}
    {h1 : (rSlot k).view.WordExact} {h2 : (eM : Memref sig .tc .vmem S4x16x256 .f32).view.WordExact}
    {kk : PUnit → Prog (TpuEff nD τ sig (Elt F) Λ₀ .tc) α} :
    iprop(records m K ∗ levAts L lv ∗ ow c (oF0 c) ∗ sendOut m c k ∗ atPos ER (cell c (sI k)) 0 ∅ 0)
      ⊢ iprop((iprop(ow c (oF0 c) ∗ semVal (cell c (sI k)) 0 ∗ ePts c k (hend m c)) -∗ wpc c (kk ⟨⟩) Q)
          -∗ wpc c (.op (.waitDma2 (sendS k) (rSlot k) eM h1 h2) kk) Q) := by
  unfold sendOut; rw [if_pos hc]
  iintro ⟨#HR, #HL, HO, Hc, Hat⟩ Hk
  iapply (wp_take m K c (sI k) (a := N) (fun G => by
      have e : csem (sI k) = .dma (sendS k) := (csem_send k).symm
      rw [e]; fin_cases k <;> rfl)
    (by rw [duties_send c k hc, Finset.card_singleton, one_mul, amount_send]) 2 (by fin_cases k <;> decide) (above_F0 c)) $$ [HO Hc Hat]
  · isplitr; · iexact HR
    isplitr; · iexact HL
    isplitl [Hc]; · iexact Hc
    isplitl [HO]; · iexact HO
    iexact Hat
  rw [duties_send c k hc, bigSep_singleton, pay_send]
  iexact Hk

/-- Without send `k` its cell closes; the share never left. -/
theorem not_sent (K : Dev nD × Fin 8 → ℕ) (c : Dev nD) (k : Fin 3) (hc : ¬ c.val + k.val + 1 < 4) :
    iprop(records m K ∗ levAts L lv ∗ ow c (oF0 c) ∗ sendOut m c k ∗ atPos ER (cell c (sI k)) 0 ∅ 0)
      ⊢ iprop(|={Set.univ}=> iprop(ow c (oF0 c) ∗ semVal (cell c (sI k)) 0 ∗ ePts c k (hend m c))) := by
  unfold sendOut; rw [if_neg hc]
  iintro ⟨#HR, -, HO, Hs, Hat⟩
  imod (close_unused m K c (sI k) (duties_unsent c k hc)) $$ [Hat] with Hz
  · isplitr; · iexact HR
    iexact Hat
  imodintro
  isplitl [HO]; · iexact HO
  isplitl [Hz] <;> iassumption

set_option maxHeartbeats 1000000 in
/-- The fourth part: the carry's share added to the first rows, and the waits for the sends. -/
theorem part4 (K : Dev nD × Fin 8 → ℕ) (c : Dev nD) (Kt : BitVec 1 → sProp 𝕄) :
    iprop(records m K ∗ levAts L lv ∗ ow c (oF0 c) ∗ (sendOut m c 0 ∗ sendOut m c 1 ∗ sendOut m c 2)
        ∗ (atPos ER (cell c 2) 0 ∅ 0 ∗ atPos ER (cell c 3) 0 ∅ 0 ∗ atPos ER (cell c 4) 0 ∅ 0)
        ∗ held c cc0_stg3_0 (cAt m c) ∗ held c cc0_stg4_0 (ownOut m c))
      ⊢ iprop((∀ b, iprop(ow c (oF0 c) ∗ (semVal (cell c 2) 0 ∗ semVal (cell c 3) 0 ∗ semVal (cell c 4) 0) ∗ held c cc0_scratch1 (hend m c)
            ∗ held c cc0_stg3_0 (cAt m c) ∗ held c cc0_stg4_0 (outAt m c))
              -∗ Kt b)
          -∗ wpc c (k0_part4_skel xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0 (myW c) (k0_pay14 (carryAt m c)) (k0_pay15 (k0_pay1 (aAt m c)))) Kt) := by
  unfold k0_part4_skel wpc
  simp -zeta only [semSignalWord, semWaitWord, Prog.lift, Prog.bind_op, Prog.bind_ret, Prog.pure_eq_ret]
  iintro ⟨#HR, #HL, HO, ⟨Hi0, Hi1, Hi2⟩, ⟨Ha0, Ha1, Ha2⟩, Hc, Ho⟩ Hk
  iapply (wp_ld hz3) $$ Hc; iintro Hc
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := headRect) (Mk := Finset.univ) (Finset.subset_univ _)) $$ Ho; iintro Ho
  iapply (wp_cut' (R := iprop(ow c (oF0 c) ∗ semVal (cell c 2) 0 ∗ ePts c 0 (hend m c)))
    (fun h => wp_sent m K c 0 ((cond11_iff c).mp h))
    (fun h => not_sent m K c 0 (fun hc => h ((cond11_iff c).mpr hc)))) $$ [HO Hi0 Ha0]
  · isplitr; · iexact HR
    isplitr; · iexact HL
    isplitl [HO]; · iexact HO
    isplitl [Hi0]; · iexact Hi0
    iexact Ha0
  iintro ⟨HO, Hz0, He0⟩
  iapply (wp_cut' (R := iprop(ow c (oF0 c) ∗ semVal (cell c 3) 0 ∗ ePts c 1 (hend m c)))
    (fun h => wp_sent m K c 1 ((cond12_iff c).mp h))
    (fun h => not_sent m K c 1 (fun hc => h ((cond12_iff c).mpr hc)))) $$ [HO Hi1 Ha1]
  · isplitr; · iexact HR
    isplitr; · iexact HL
    isplitl [HO]; · iexact HO
    isplitl [Hi1]; · iexact Hi1
    iexact Ha1
  iintro ⟨HO, Hz1, He1⟩
  iapply (wp_cut' (R := iprop(ow c (oF0 c) ∗ semVal (cell c 4) 0 ∗ ePts c 2 (hend m c)))
    (fun h => wp_sent m K c 2 ((cond13_iff c).mp h))
    (fun h => not_sent m K c 2 (fun hc => h ((cond13_iff c).mpr hc)))) $$ [HO Hi2 Ha2]
  · isplitr; · iexact HR
    isplitr; · iexact HL
    isplitl [HO]; · iexact HO
    isplitl [Hi2]; · iexact Hi2
    iexact Ha2
  iintro ⟨HO, Hz2, He2⟩
  ihave He := (ebuf_join c (hend m c)) $$ [He0 He1 He2]
  · isplitl [He0]; · iexact He0
    isplitl [He1] <;> iassumption
  unfold wpc; rw [wp_ret]; imodintro
  iapply Hk
  isplitl [HO]; · iexact HO
  isplitl [Hz0 Hz1 Hz2]
  · isplitl [Hz0]; · iexact Hz0
    isplitl [Hz1] <;> iassumption
  isplitl [He]; · iexact He
  isplitl [Hc]; · iexact Hc
  iexact Ho

/-! ## The closing signals -/

theorem cond14_iff (c : Dev nD) : k0_cond14 c = 1#1 ↔ (0 : Dev nD) ≠ c := by revert c; decide
theorem cond15_iff (c : Dev nD) : k0_cond15 c = 1#1 ↔ (1 : Dev nD) ≠ c := by revert c; decide
theorem cond16_iff (c : Dev nD) : k0_cond16 c = 1#1 ↔ (2 : Dev nD) ≠ c := by revert c; decide
theorem cond17_iff (c : Dev nD) : k0_cond17 c = 1#1 ↔ (3 : Dev nD) ≠ c := by revert c; decide

set_option maxHeartbeats 2000000 in
/-- The whole body on device `c`. -/
theorem whole_body (K : Dev nD × Fin 8 → ℕ) (c : Dev nD) (Kt : PUnit → sProp 𝕄) (o u e h) :
    iprop(records m K ∗ levAts L lv ∗ ow c (oB0 c)
        ∗ (dutyTok ER (cell 0 0) 0 c ∗ dutyTok ER (cell 1 0) 0 c ∗ dutyTok ER (cell 2 0) 0 c ∗ dutyTok ER (cell 3 0) 0 c)
        ∗ (dutyTok ER (cell 0 1) 0 c ∗ dutyTok ER (cell 1 1) 0 c ∗ dutyTok ER (cell 2 1) 0 c ∗ dutyTok ER (cell 3 1) 0 c)
        ∗ (dutyTok ER (cell c 2) 0 0 ∗ dutyTok ER (cell c 3) 0 0 ∗ dutyTok ER (cell c 4) 0 0)
        ∗ (dutyTok ER (cell (tgt c 0) 5) 0 0 ∗ dutyTok ER (cell (tgt c 1) 6) 0 0 ∗ dutyTok ER (cell (tgt c 2) 7) 0 0)
        ∗ (atPos ER (cell c 0) 0 ∅ 0 ∗ atPos ER (cell c 1) 0 ∅ 0)
        ∗ (atPos ER (cell c 2) 0 ∅ 0 ∗ atPos ER (cell c 3) 0 ∅ 0 ∗ atPos ER (cell c 4) 0 ∅ 0)
        ∗ (atPos ER (cell c 5) 0 ∅ 0 ∗ atPos ER (cell c 6) 0 ∅ 0 ∗ atPos ER (cell c 7) 0 ∅ 0)
        ∗ (cred (tallyAt (cell c 0) () 3) ∗ cred (tallyAt (cell c 1) () 3))
        ∗ (barPay c 0 ∗ barPay c 1 ∗ barPay c 2 ∗ barPay c 3)
        ∗ (recvIn c 0 ∗ recvIn c 1 ∗ recvIn c 2)
        ∗ (held c cc0_stg0_0 (xAt m c) ∗ held c cc0_stg1_0 (aAt m c) ∗ held c cc0_stg2_0 (bAt m c) ∗ held c cc0_stg3_0 (cAt m c) ∗ held c cc0_stg4_0 o)
        ∗ held c cc0_scratch0 u ∗ held c cc0_scratch1 e ∗ held c cc0_scratch3 h)
      ⊢ iprop((iprop(ow c 0
            ∗ (semVal (cell c 0) 0 ∗ semVal (cell c 1) 0) ∗ (semVal (cell c 2) 0 ∗ semVal (cell c 3) 0 ∗ semVal (cell c 4) 0)
            ∗ (semVal (cell c 5) 0 ∗ semVal (cell c 6) 0 ∗ semVal (cell c 7) 0)
            ∗ (held c cc0_stg0_0 (xAt m c) ∗ held c cc0_stg1_0 (aAt m c) ∗ held c cc0_stg2_0 (bAt m c) ∗ held c cc0_stg3_0 (cAt m c) ∗ held c cc0_stg4_0 (outAt m c))
            ∗ held c cc0_scratch0 (scanAt m c k0_t1_loop.trips).2 ∗ held c cc0_scratch1 (hend m c) ∗ (slotAny c 0 ∗ slotAny c 1 ∗ slotAny c 2)
            ∗ held c cc0_scratch3 (carryAt m c))
              -∗ Kt ⟨⟩)
          -∗ wpc c (cc0_body xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0) Kt) := by
  rw [cc0_body_eq_skeleton]
  unfold cc0_body_skel wpc
  simp -zeta only [semSignalWord, semWaitWord, Prog.lift, Prog.bind_op, Prog.bind_ret, Prog.pure_eq_ret, k0_part1_eq_skeleton, k0_part2_eq_skeleton, k0_part3_eq_skeleton, k0_part4_eq_skeleton]
  iintro ⟨#HR, #HL, HO, Htb, ⟨Hf0, Hf1, Hf2, Hf3⟩, Hts, Htr, ⟨Hab, Haf⟩, Has, Har, ⟨Hcb, Hcf⟩, Hbp, Hri, ⟨Hx, Ha, Hb, Hc, Ho⟩, Hu, He, Hh⟩ Hk
  rw [wp_bind]
  iapply (part1 m K c _ u) $$ [HO Htb Hbp Hcb Hab Hx Ha Hb Hu]
  · isplitr; · iexact HR
    isplitr; · iexact HL
    isplitl [HO]; · iexact HO
    isplitl [Htb]; · iexact Htb
    isplitl [Hbp]; · iexact Hbp
    isplitl [Hcb]; · iexact Hcb
    isplitl [Hab]; · iexact Hab
    isplitl [Hx]; · iexact Hx
    isplitl [Ha]; · iexact Ha
    isplitl [Hb] <;> iassumption
  iintro %v ⟨HO, Hz0, Hpay, Hx, Ha, Hb, Hu⟩
  ihave Hsi := (bar_slots c) $$ Hpay
  dsimp only
  rw [wp_bind]
  iapply (part2 m K c _ u e v) $$ [HO Hsi Hts Htr Hu He]
  · isplitr; · iexact HR
    isplitl [HO]; · iexact HO
    isplitl [Hsi]; · iexact Hsi
    isplitl [Hts]; · iexact Hts
    isplitl [Htr]; · iexact Htr
    isplitl [Hu] <;> iassumption
  iintro ⟨HO, Hso, Hu⟩
  rw [wp_bind]
  iapply (part3 m K c _ o h) $$ [HO Hri Har Hu Hc Ho Hh]
  · isplitr; · iexact HR
    isplitr; · iexact HL
    isplitl [HO]; · iexact HO
    isplitl [Hri]; · iexact Hri
    isplitl [Har]; · iexact Har
    isplitl [Hu]; · iexact Hu
    isplitl [Hc]; · iexact Hc
    isplitl [Ho] <;> iassumption
  iintro ⟨HO, Hzr, Hsl, Hu, Hc, Ho, Hh⟩
  dsimp only
  rw [wp_bind]
  iapply (part4 m K c _) $$ [HO Hso Has Hc Ho]
  · isplitr; · iexact HR
    isplitr; · iexact HL
    isplitl [HO]; · iexact HO
    isplitl [Hso]; · iexact Hso
    isplitl [Has]; · iexact Has
    isplitl [Hc] <;> iassumption
  iintro %b ⟨HO, Hzs, He, Hc, Ho⟩
  iapply (wp_cut (R := ow c (oF1 c)) (w := fun p => wpc c p Kt) (fun h => wp_done m K c 0 _ (Fin.ext rfl) ((cond14_iff c).mp h) (oF1 c) rfl)
    (fun h => not_done m K c 0 (by by_contra hn; exact h ((cond14_iff c).mpr hn)) (oF1 c))) $$ [HO Hf0]
  · isplitr; · iexact HR
    isplitl [HO]; · iexact HO
    iexact Hf0
  iintro HO
  iapply (wp_cut (R := ow c (oF2 c)) (w := fun p => wpc c p Kt) (fun h => wp_done m K c 1 _ (Fin.ext rfl) ((cond15_iff c).mp h) (oF2 c) rfl)
    (fun h => not_done m K c 1 (by by_contra hn; exact h ((cond15_iff c).mpr hn)) (oF2 c))) $$ [HO Hf1]
  · isplitr; · iexact HR
    isplitl [HO]; · iexact HO
    iexact Hf1
  iintro HO
  iapply (wp_cut (R := ow c (oF3 c)) (w := fun p => wpc c p Kt) (fun h => wp_done m K c 2 _ (Fin.ext rfl) ((cond16_iff c).mp h) (oF3 c) rfl)
    (fun h => not_done m K c 2 (by by_contra hn; exact h ((cond16_iff c).mpr hn)) (oF3 c))) $$ [HO Hf2]
  · isplitr; · iexact HR
    isplitl [HO]; · iexact HO
    iexact Hf2
  iintro HO
  iapply (wp_cut (R := ow c (0)) (w := fun p => wpc c p Kt) (fun h => wp_done m K c 3 _ (Fin.ext rfl) ((cond17_iff c).mp h) (0) rfl)
    (fun h => not_done m K c 3 (by by_contra hn; exact h ((cond17_iff c).mpr hn)) (0))) $$ [HO Hf3]
  · isplitr; · iexact HR
    isplitl [HO]; · iexact HO
    iexact Hf3
  iintro HO
  iapply (wp_take m K c 1 (fun G => rfl) (a := 3) (by revert c; decide) 3 (by decide) (Above.zero 3)) $$ [HO Hcf Haf]
  · isplitr; · iexact HR
    isplitr; · iexact HL
    isplitl [Hcf]; · iexact Hcf
    isplitl [HO]; · iexact HO
    iexact Haf
  iintro ⟨HO, Hz1, -⟩
  unfold wpc; rw [wp_ret]; imodintro
  iapply Hk
  isplitl [HO]; · iexact HO
  isplitl [Hz0 Hz1]; · isplitl [Hz0] <;> iassumption
  isplitl [Hzs]; · iexact Hzs
  isplitl [Hzr]; · iexact Hzr
  isplitl [Hx Ha Hb Hc Ho]
  · isplitl [Hx]; · iexact Hx
    isplitl [Ha]; · iexact Ha
    isplitl [Hb]; · iexact Hb
    isplitl [Hc] <;> iassumption
  isplitl [Hu]; · iexact Hu
  isplitl [He]; · iexact He
  isplitl [Hsl] <;> iassumption

end Cert.Scan

end
-- ==== Proof.Dealing.lean ====
/-
The launch deals each device its share: cells opened at zero, duty tokens to their payers, the receive buffer cut in
slots, and the credit that the debts of the others leave it.
-/
module

public import proofs.«01_k».proof.Proof.Carrying
public import Idealize.ShloMosaic.Lib.Ring

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions written out -/

omit [FloatOps F] in
theorem sep3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem sep14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

/-! ## The receive buffer in slots -/

/-- The elements of slot `k`. -/
def slotSet (c : Dev nD) : Fin 3 → Finset (Idx ((c : Thread nD τ).loc cc0_scratch2))
  | 0 => (slotRect 0).set | 1 => (slotRect 1).set | 2 => (slotRect 2).set

theorem mem_slot (c : Dev nD) (k : Fin 3) (i : S3x4x16x256.Idx) : i ∈ slotSet c k ↔ (i 0).val = k.val := by
  have h1 : (i 1).val < 4 := (i 1).isLt
  have h2 : (i 2).val < 16 := (i 2).isLt
  have h3 : (i 3).val < 256 := (i 3).isLt
  fin_cases k
  · show i ∈ (slotRect 0).set ↔ _
    rw [Rect.mem_set_unit, Fin.forall_fin_succ, Fin.forall_fin_succ, Fin.forall_fin_succ, Fin.forall_fin_one]
    simp [S1x4x16x256] <;> omega
  · show i ∈ (slotRect 1).set ↔ _
    rw [Rect.mem_set_unit, Fin.forall_fin_succ, Fin.forall_fin_succ, Fin.forall_fin_succ, Fin.forall_fin_one]
    simp [S1x4x16x256] <;> omega
  · show i ∈ (slotRect 2).set ↔ _
    rw [Rect.mem_set_unit, Fin.forall_fin_succ, Fin.forall_fin_succ, Fin.forall_fin_succ, Fin.forall_fin_one]
    simp [S1x4x16x256] <;> omega

theorem slot_disjoint (c : Dev nD) (k k' : Fin 3) (h : k ≠ k') : Disjoint (slotSet c k) (slotSet c k') :=
  Finset.disjoint_left.mpr fun i hi hi' => h (Fin.ext (((mem_slot c k i).mp hi).symm.trans ((mem_slot c k' i).mp hi')))
theorem slot_cover (c : Dev nD) : Finset.univ.biUnion (slotSet c) = Finset.univ :=
  Finset.eq_univ_iff_forall.mpr fun i => Finset.mem_biUnion.mpr
    ⟨⟨((i : S3x4x16x256.Idx) 0).val, ((i : S3x4x16x256.Idx) 0).isLt⟩, Finset.mem_univ _, (mem_slot c _ i).mpr rfl⟩

theorem slot_eq0 : ((rSlot 0).view.set : Finset S3x4x16x256.Idx) = (slotRect 0).set :=
  (Memref.set_view_squeeze _ squeezes_S1x4x16x256_S4x16x256).trans (View.set_slice_whole _ _)
theorem slot_eq1 : ((rSlot 1).view.set : Finset S3x4x16x256.Idx) = (slotRect 1).set :=
  (Memref.set_view_squeeze _ squeezes_S1x4x16x256_S4x16x256).trans (View.set_slice_whole _ _)
theorem slot_eq2 : ((rSlot 2).view.set : Finset S3x4x16x256.Idx) = (slotRect 2).set :=
  (Memref.set_view_squeeze _ squeezes_S1x4x16x256_S4x16x256).trans (View.set_slice_whole _ _)

omit [FloatOps F] in
theorem slot_pts (c : Dev nD) (k : Fin 3) :
    (slotAny c k : sProp 𝕄) = iprop(∃ f : Buf (Elt F) ((c : Thread nD τ).loc cc0_scratch2), ((c : Thread nD τ).loc cc0_scratch2) ↦[slotSet c k]{fullShare} f) := by
  fin_cases k
  · show (iprop(∃ f, ((c : Thread nD τ).loc cc0_scratch2) ↦[(rSlot 0).view.set]{fullShare} f) : sProp 𝕄) = _
    rw [slot_eq0]; rfl
  · show (iprop(∃ f, ((c : Thread nD τ).loc cc0_scratch2) ↦[(rSlot 1).view.set]{fullShare} f) : sProp 𝕄) = _
    rw [slot_eq1]; rfl
  · show (iprop(∃ f, ((c : Thread nD τ).loc cc0_scratch2) ↦[(rSlot 2).view.set]{fullShare} f) : sProp 𝕄) = _
    rw [slot_eq2]; rfl

omit [FloatOps F] in
/-- The receive buffer is its three slots. -/
theorem slots_cut (c : Dev nD) (f : (cc0_scratch2 : Ref sig .tc).ty.Contents (Elt F)) :
    held c cc0_scratch2 f ⊢ iprop(slotAny c 0 ∗ slotAny c 1 ∗ slotAny c 2) := by
  unfold held
  rw [Ring.pointsTo_blocks (slotSet c) (slot_disjoint c) (slot_cover c), sep3, slot_pts, slot_pts, slot_pts]
  iintro ⟨H0, H1, H2⟩
  isplitl [H0]; · iexists f; iexact H0
  isplitl [H1]
  · iexists f; iexact H1
  iexists f; iexact H2

omit [FloatOps F] in
/-- The three slots, whatever each holds, are the receive buffer at some contents. -/
theorem slots_join [∀ e, Nonempty (Elt F e)] (c : Dev nD) :
    iprop(slotAny c 0 ∗ slotAny c 1 ∗ slotAny c 2) ⊢ (iprop(∃ f, held c cc0_scratch2 f) : sProp 𝕄) := by
  have h := Ring.pointsTo_blocks_join_exists (Ix := Unit) (Val := Elt F) (Name := ℕ) (U := UU) (Lvl := ℕ) (slotSet c) (slot_disjoint c) (slot_cover c) (q := fullShare) (fun _ => Classical.choice inferInstance)
  rw [sep3] at h
  rw [slot_pts, slot_pts, slot_pts]
  exact h

/-! ## What each device is dealt -/

/-- The tokens of the duties that device `c` pays: the ready and closing signals to each device, its three sends, and
    the three slots that the sends fill. -/
abbrev tokOf (cj : Dev nD × Fin 14) : GSem nD τ sig × ℕ × Dev nD := match cj.2 with
  | 0 => (cell 0 0, 0, cj.1) | 1 => (cell 1 0, 0, cj.1) | 2 => (cell 2 0, 0, cj.1) | 3 => (cell 3 0, 0, cj.1)
  | 4 => (cell 0 1, 0, cj.1) | 5 => (cell 1 1, 0, cj.1) | 6 => (cell 2 1, 0, cj.1) | 7 => (cell 3 1, 0, cj.1)
  | 8 => (cell cj.1 2, 0, 0) | 9 => (cell cj.1 3, 0, 0) | 10 => (cell cj.1 4, 0, 0)
  | 11 => (cell (tgt cj.1 0) 5, 0, 0) | 12 => (cell (tgt cj.1 1) 6, 0, 0) | 13 => (cell (tgt cj.1 2) 7, 0, 0)

/-- A token's device, semaphore and payer. -/
abbrev codeOf (cj : Dev nD × Fin 14) : Fin 4 × Fin 9 × Fin 4 := match cj.2 with
  | 0 => (0, 0, cj.1) | 1 => (1, 0, cj.1) | 2 => (2, 0, cj.1) | 3 => (3, 0, cj.1)
  | 4 => (0, 1, cj.1) | 5 => (1, 1, cj.1) | 6 => (2, 1, cj.1) | 7 => (3, 1, cj.1)
  | 8 => (cj.1, 2, 0) | 9 => (cj.1, 3, 0) | 10 => (cj.1, 4, 0)
  | 11 => (tgt cj.1 0, 5, 0) | 12 => (tgt cj.1 1, 6, 0) | 13 => (tgt cj.1 2, 7, 0)

theorem codeOf_injective : ∀ a b : Dev nD × Fin 14, codeOf a = codeOf b → a = b := by decide +kernel
theorem code_tok (cj : Dev nD × Fin 14) : ((tokOf cj).1.1.1, idx (tokOf cj).1.2, (tokOf cj).2.2) = codeOf cj := by
  obtain ⟨c, j⟩ := cj
  fin_cases j <;> dsimp only [tokOf, codeOf, cell] <;> rw [idx_csem] <;> rfl
theorem tokOf_injective : Function.Injective (tokOf : Dev nD × Fin 14 → GSem nD τ sig × ℕ × Dev nD) := fun a b h =>
  codeOf_injective a b (by rw [← code_tok, ← code_tok, h])

abbrev kcell (ci : Dev nD × Fin 8) : GSem nD τ sig := cell ci.1 ci.2
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def allCells : Finset (GSem nD τ sig) := Finset.univ.map ⟨kcell, kcell_injective⟩
def allToks : Finset (GSem nD τ sig × ℕ × Dev nD) := Finset.univ.map ⟨tokOf, tokOf_injective⟩

/-- The ghost element at launch. -/
def u₀ : UU :=
  (initOf (Pipeline.cells cfgs cellOf_inj) (Pipeline.launchToks cfgs cellOf_inj), initOf allCells allToks)

def toks (c : Dev nD) : sProp 𝕄 := bigSep Finset.univ fun j : Fin 14 => dutyTok ER (tokOf (c, j)).1 (tokOf (c, j)).2.1 (tokOf (c, j)).2.2

/-- What the launch element gives device `c`: its cells at round 0, its positions, its tokens. -/
def G (c : Dev nD) : sProp 𝕄 :=
  iprop((bigSep Finset.univ fun k : Fin 8 => roundState ER (sched m) (kcell (c, k)) 0)
    ∗ (bigSep Finset.univ fun k : Fin 8 => iprop(atPos ER (kcell (c, k)) 0 ∅ 0 ∗ reached ER (kcell (c, k)) 0)) ∗ toks c)

/-- What a device starts from, the cells being open at names `K`. -/
def ghost (K : Dev nD × Fin 8 → ℕ) (c : Dev nD) : sProp 𝕄 :=
  iprop(records m K ∗ (bigSep Finset.univ fun k : Fin 8 => atPos ER (kcell (c, k)) 0 ∅ 0) ∗ toks c)
def G' (c : Dev nD) : sProp 𝕄 := iprop(∃ K, ghost m K c)

omit [FloatOps F] in
theorem cells_prod (Φ : GSem nD τ sig → sProp 𝕄) :
    bigSep allCells Φ = bigSep Finset.univ fun c : Dev nD => bigSep Finset.univ fun k : Fin 8 => Φ (kcell (c, k)) := by
  unfold allCells; rw [bigSep_map, bigSep_univ_prod]; rfl
omit [FloatOps F] in
theorem toks_prod : bigSep allToks (fun x => (dutyTok ER x.1 x.2.1 x.2.2 : sProp 𝕄)) = bigSep Finset.univ fun c : Dev nD => toks c := by
  unfold allToks; rw [bigSep_map, bigSep_univ_prod]; rfl

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (cells_prod fun g => roundState ER (sched m) g 0)) $$ Hst
  ihave Hat' := (Entails.of_eq (cells_prod (F := F) fun g => atPos ER g 0 ∅ 0)) $$ Hat
  ihave Hr' := (Entails.of_eq (cells_prod (F := F) fun g => reached ER g 0)) $$ Hr
  ihave Htok' := (Entails.of_eq (toks_prod (F := F))) $$ Htok
  unfold G; simp only [bigSep_sep']
  isplitl [Hst']; · iexact Hst'
  isplitl [Hat' Hr']
  · isplitl [Hat'] <;> iassumption
  iexact Htok'

/-! ## The counters -/

/-- The seven semaphores of the kernel's own scope. -/
abbrev osem : Fin 7 → SemLoc sig := fun i => csem i.succ
theorem ownSemFacts : Pipeline.OwnSemFacts cfg0.spec osem := by decide

abbrev ownZero (c : Dev nD) : sProp 𝕄 := Pipeline.ownSems0 (Ix := Unit) (Name := ℕ) (U := UU) (Lvl := ℕ) (Val := Elt F) (τ := τ) osem c

omit [FloatOps F] in
theorem ownZero_eq (c : Dev nD) : (ownZero c : sProp 𝕄)
    = iprop(semVal (cell c 1) 0 ∗ semVal (cell c 2) 0 ∗ semVal (cell c 3) 0 ∗ semVal (cell c 4) 0 ∗ semVal (cell c 5) 0 ∗ semVal (cell c 6) 0 ∗ semVal (cell c 7) 0) := by
  unfold ownZero
  rw [Pipeline.ownSems0_eq_of_list c osem [0, 1, 2, 3, 4, 5, 6] (by decide) (by decide)]; rfl
omit [FloatOps F] in
theorem unscopedZero_eq (c : Dev nD) : (unscopedSems0 c : sProp 𝕄) = semVal (cell c 0) 0 := by
  unfold unscopedSems0; rw [bigSep_eq_bigSepL_of_eq [SemLoc.reg barS] (by decide) (by decide)]; rfl

omit [FloatOps F] in
theorem zeros (c : Dev nD) : iprop(ownZero c ∗ unscopedSems0 c) ⊢ (bigSep Finset.univ fun k : Fin 8 => semVal (kcell (c, k)) 0 : sProp 𝕄) := by
  rw [ownZero_eq, unscopedZero_eq, sep8]
  iintro ⟨HS, HB⟩
  isplitl [HB]; · iexact HB
  iexact HS

/-- Each cell's invariant is opened from its counter at zero and its round. -/
theorem core_alloc (c : Dev nD) :
    iprop(ownZero c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (zeros (F := F) c) $$ [Hos Hus]
  · isplitl [Hos] <;> iassumption
  imod (show iprop((bigSep Finset.univ fun k : Fin 8 => semVal (kcell (c, k)) 0) ∗ bigSep Finset.univ fun k : Fin 8 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A persistent fact goes along with every member of a finite conjunction. -/
theorem bigSep_along {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 8 => iprop(∃ κ : ℕ, cellInv ER (sched m) κ (kcell ck))),
    bigSep_congr (s := Finset.univ) (fun (c : Dev nD) _ => bigSep_sep' Finset.univ (fun k : Fin 8 => (atPos ER (kcell (c, k)) 0 ∅ 0 : sProp 𝕄)) (fun k => reached ER (kcell (c, k)) 0)),
    bigSep_sep', ← bigSep_univ_prod (fun ck : Dev nD × Fin 8 => (reached ER (kcell ck) 0 : sProp 𝕄))]
  iintro ⟨HI, ⟨Hat, #HR⟩, Htok⟩
  ihave HK := (BI.bigSep_exists_pi Finset.univ (fun (ck : Dev nD × Fin 8) (κ : ℕ) => (cellInv ER (sched m) κ (kcell ck) : sProp 𝕄))) $$ HI
  icases HK with ⟨%K, #HI⟩
  iapply (bigSep_along (R := records m K) (Φ := fun c => iprop((bigSep Finset.univ fun k : Fin 8 => atPos ER (kcell (c, k)) 0 ∅ 0) ∗ toks c))
    fun c _ => show _ ⊢ G' m c from by
      unfold G' ghost
      iintro ⟨HR, Hat, Ht⟩
      iexists K
      isplitl [HR]; · iexact HR
      isplitl [Hat] <;> iassumption)
  isplitr
  · unfold records; isplitl; · iexact HI
    iexact HR
  · rw [bigSep_sep']
    isplitl [Hat]; · iexact Hat
    iexact Htok

/-- All devices' cells opened at once. -/
theorem glob : (bigSep Finset.univ fun c => iprop(ownZero c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit that the debts leave -/

/-- The units that come to each cell of device `c`. -/
def dueOf (c : Dev nD) : Fin 8 → ℕ
  | 0 => 3 | 1 => 3 | 2 => 0 | 3 => 0 | 4 => 0
  | 5 => if 0 < c.val then N else 0 | 6 => if 1 < c.val then N else 0 | 7 => if 2 < c.val then N else 0

theorem tally_cell (p c : Dev nD) (j i : Fin 8) (a : ℕ) :
    (tallyAt (cell p j) () a : CellTallies nD τ sig Unit) (cell c i) () = if p = c ∧ j = i then a else 0 := by
  rw [tallyAt_apply]
  by_cases h : p = c ∧ j = i
  · rw [if_pos h, if_pos ⟨by rw [h.1, h.2], rfl⟩]
  · have hn : ¬ (cell c i = cell p j ∧ () = ()) := fun ⟨h', _⟩ => h (by
      have := kcell_injective (a₁ := (c, i)) (a₂ := (p, j)) h'
      exact ⟨(congrArg Prod.fst this).symm, (congrArg Prod.snd this).symm⟩)
    rw [if_neg h, if_neg hn]

theorem bar_cell (p d c : Dev nD) (i : Fin 8) : oBar p d (cell c i) () = if p ≠ d ∧ p = c ∧ 0 = i then 1 else 0 := by
  unfold oBar
  by_cases h : p = d
  · rw [if_pos h, if_neg fun h' => h'.1 h]; rfl
  · rw [if_neg h, tally_cell]; simp only [ne_eq, h, not_false_eq_true, true_and]
theorem fin_cell (p d c : Dev nD) (i : Fin 8) : oFin p d (cell c i) () = if p ≠ d ∧ p = c ∧ 1 = i then 1 else 0 := by
  unfold oFin
  by_cases h : p = d
  · rw [if_pos h, if_neg fun h' => h'.1 h]; rfl
  · rw [if_neg h, tally_cell]; simp only [ne_eq, h, not_false_eq_true, true_and]
theorem recv_cell (k : Fin 3) (d c : Dev nD) (i : Fin 8) :
    oRecv k d (cell c i) () = if d.val + k.val + 1 < 4 ∧ tgt d k = c ∧ rI k = i then N else 0 := by
  unfold oRecv
  by_cases h : d.val + k.val + 1 < 4
  · rw [if_pos h, tally_cell]; simp only [h, true_and]
  · rw [if_neg h, if_neg fun h' => h h'.1]; rfl

theorem owed_cell (d c : Dev nD) (i : Fin 8) : oB0 d (cell c i) ()
    = 0 + oFin 3 d (cell c i) () + oFin 2 d (cell c i) () + oFin 1 d (cell c i) () + oFin 0 d (cell c i) ()
      + oRecv 2 d (cell c i) () + oRecv 1 d (cell c i) () + oRecv 0 d (cell c i) ()
      + oBar 3 d (cell c i) () + oBar 2 d (cell c i) () + oBar 1 d (cell c i) () + oBar 0 d (cell c i) () := by
  unfold oB0 oB1 oB2 oB3 oR0 oR1 oR2 oF0 oF1 oF2 oF3
  simp only [Pi.add_apply, Finsupp.add_apply]
  rfl

/-- The conditions decided, the sizes left alone. -/
theorem due_table (n : ℕ) : ∀ (c : Dev nD) (i : Fin 8),
    (∑ d : Dev nD, (0 + (if (3 : Dev nD) ≠ d ∧ 3 = c ∧ 1 = i then 1 else 0) + (if (2 : Dev nD) ≠ d ∧ 2 = c ∧ 1 = i then 1 else 0)
        + (if (1 : Dev nD) ≠ d ∧ 1 = c ∧ 1 = i then 1 else 0) + (if (0 : Dev nD) ≠ d ∧ 0 = c ∧ 1 = i then 1 else 0)
        + (if d.val + (2 : Fin 3).val + 1 < 4 ∧ tgt d 2 = c ∧ rI 2 = i then n else 0) + (if d.val + (1 : Fin 3).val + 1 < 4 ∧ tgt d 1 = c ∧ rI 1 = i then n else 0)
        + (if d.val + (0 : Fin 3).val + 1 < 4 ∧ tgt d 0 = c ∧ rI 0 = i then n else 0)
        + (if (3 : Dev nD) ≠ d ∧ 3 = c ∧ 0 = i then 1 else 0) + (if (2 : Dev nD) ≠ d ∧ 2 = c ∧ 0 = i then 1 else 0)
        + (if (1 : Dev nD) ≠ d ∧ 1 = c ∧ 0 = i then 1 else 0) + (if (0 : Dev nD) ≠ d ∧ 0 = c ∧ 0 = i then 1 else 0)))
      = match i with
        | 0 => 3 | 1 => 3 | 2 => 0 | 3 => 0 | 4 => 0
        | 5 => if 0 < c.val then n else 0 | 6 => if 1 < c.val then n else 0 | 7 => if 2 < c.val then n else 0 := by
  intro c i
  show (∑ d : Fin 4, _) = _
  rw [Fin.sum_univ_four]
  fin_cases c <;> fin_cases i <;> simp (decide := true) only [if_true, if_false, Nat.zero_add, Nat.add_zero]

theorem launch_due (c : Dev nD) (i : Fin 8) :
    tallyOn (cell c i) (launchCredit (Pipeline.owing oB0) 0 (cell c i)) = (tallyAt (cell c i) () (dueOf c i) : CellTallies nD τ sig Unit) := by
  unfold tallyAt; refine congrArg _ (Finsupp.ext fun u => ?_); cases u
  rw [Pipeline.launchCredit_owing, Finsupp.single_eq_same, Finset.sum_congr rfl fun d _ => owed_cell d c i]
  simp only [bar_cell, fin_cell, recv_cell]
  exact due_table N c i

omit [FloatOps F] in
theorem creds (c : Dev nD) : (Pipeline.launchCred oB0 c : sProp 𝕄)
    ⊢ iprop((cred (tallyAt (cell c 0) () 3) ∗ cred (tallyAt (cell c 1) () 3))
        ∗ cred (tallyAt (cell c 5) () (dueOf c 5)) ∗ cred (tallyAt (cell c 6) () (dueOf c 6)) ∗ cred (tallyAt (cell c 7) () (dueOf c 7))) := by
  have key : (Pipeline.launchCred oB0 c : sProp 𝕄) ⊢ bigSep Finset.univ fun i : Fin 8 => cred (tallyAt (cell c i) () (dueOf c i)) := by
    unfold Pipeline.launchCred
    refine (bigSep_subset (Finset.subset_univ (Finset.univ.map ⟨csem, csem_injective⟩))).trans ?_
    rw [bigSep_map]
    exact Entails.of_eq (bigSep_congr fun i _ => congrArg cred (launch_due c i))
  rw [sep8] at key
  iintro H
  ihave H := key $$ H
  icases H with ⟨H0, H1, -, -, -, H5, H6, H7⟩
  isplitl [H0 H1]
  · isplitl [H0]; · iexact H0
    iexact H1
  isplitl [H5]; · iexact H5
  isplitl [H6] <;> iassumption

omit [FloatOps F] in
/-- The slots of a device are those that it hands out with its ready signals and those it keeps; in place of each slot
    handed out stands the credit for what will arrive in it. -/
theorem deal_slots (c : Dev nD) :
    iprop((slotAny c 0 ∗ slotAny c 1 ∗ slotAny c 2)
        ∗ cred (tallyAt (cell c 5) () (dueOf c 5)) ∗ cred (tallyAt (cell c 6) () (dueOf c 6)) ∗ cred (tallyAt (cell c 7) () (dueOf c 7)))
      ⊢ (iprop((barPay c 0 ∗ barPay c 1 ∗ barPay c 2 ∗ barPay c 3) ∗ (recvIn c 0 ∗ recvIn c 1 ∗ recvIn c 2)) : sProp 𝕄) := by
  unfold barPay recvIn dueOf
  fin_cases c
  · simp only [Fin.zero_eta, Fin.isValue, Fin.val_zero, lt_self_iff_false, not_lt_zero, if_false]
    iintro ⟨⟨H0, H1, H2⟩, -⟩
    isplitr
    · isplitr; · iempintro
      isplitr; · iempintro
      isplitr <;> iempintro
    isplitl [H0]; · iexact H0
    isplitl [H1] <;> iassumption
  · show iprop((slotAny 1 0 ∗ slotAny 1 1 ∗ slotAny 1 2) ∗ cred (tallyAt (cell 1 5) () N) ∗ cred (tallyAt (cell 1 6) () 0) ∗ cred (tallyAt (cell 1 7) () 0))
      ⊢ iprop((slotAny 1 0 ∗ emp ∗ emp ∗ emp) ∗ (cred (tallyAt (cell 1 5) () N) ∗ slotAny 1 1 ∗ slotAny 1 2))
    iintro ⟨⟨H0, H1, H2⟩, Hc, -⟩
    isplitl [H0]
    · isplitl [H0]; · iexact H0
      isplitr; · iempintro
      isplitr <;> iempintro
    isplitl [Hc]; · iexact Hc
    isplitl [H1] <;> iassumption
  · show iprop((slotAny 2 0 ∗ slotAny 2 1 ∗ slotAny 2 2) ∗ cred (tallyAt (cell 2 5) () N) ∗ cred (tallyAt (cell 2 6) () N) ∗ cred (tallyAt (cell 2 7) () 0))
      ⊢ iprop((slotAny 2 1 ∗ slotAny 2 0 ∗ emp ∗ emp) ∗ (cred (tallyAt (cell 2 5) () N) ∗ cred (tallyAt (cell 2 6) () N) ∗ slotAny 2 2))
    iintro ⟨⟨H0, H1, H2⟩, Hc, Hd, -⟩
    isplitl [H0 H1]
    · isplitl [H1]; · iexact H1
      isplitl [H0]; · iexact H0
      isplitr <;> iempintro
    isplitl [Hc]; · iexact Hc
    isplitl [Hd] <;> iassumption
  · show iprop((slotAny 3 0 ∗ slotAny 3 1 ∗ slotAny 3 2) ∗ cred (tallyAt (cell 3 5) () N) ∗ cred (tallyAt (cell 3 6) () N) ∗ cred (tallyAt (cell 3 7) () N))
      ⊢ iprop((slotAny 3 2 ∗ slotAny 3 1 ∗ slotAny 3 0 ∗ emp) ∗ (cred (tallyAt (cell 3 5) () N) ∗ cred (tallyAt (cell 3 6) () N) ∗ cred (tallyAt (cell 3 7) () N)))
    iintro ⟨⟨H0, H1, H2⟩, Hc, Hd, He⟩
    isplitl [H0 H1 H2]
    · isplitl [H2]; · iexact H2
      isplitl [H1]; · iexact H1
      isplitl [H0]; · iexact H0
      iempintro
    isplitl [Hc]; · iexact Hc
    isplitl [Hd] <;> iassumption

end Cert.Scan

end
-- ==== Proof.Run.lean ====
/-
The run of the kernel on the four devices: it always finishes, the four inputs stay, and each device's result array
ends at the value the body stores.
-/
module

public import proofs.«01_k».proof.Proof.Dealing
public import Idealize.ShloMosaic.Lib.Pipeline.CollectiveSegs

@[expose] public section

noncomputable section

namespace Cert.Scan

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c`'s body starts from besides its buffers. -/
def start (c : Dev nD) : sProp 𝕄 :=
  iprop(G' m c ∗ ((cred (tallyAt (cell c 0) () 3) ∗ cred (tallyAt (cell c 1) () 3))
      ∗ cred (tallyAt (cell c 5) () (dueOf c 5)) ∗ cred (tallyAt (cell c 6) () (dueOf c 6)) ∗ cred (tallyAt (cell c 7) () (dueOf c 7))) ∗ levAts L lv)

/-- The four buffers of the kernel's scope, at any contents. -/
def scopeAny (c : Dev nD) : sProp 𝕄 :=
  iprop((∃ f, held c cc0_scratch0 f) ∗ (∃ f, held c cc0_scratch1 f) ∗ (∃ f, held c cc0_scratch2 f) ∗ ∃ f, held c cc0_scratch3 f)

def Φ₀ (c : Dev nD) : sProp 𝕄 := iprop(start m c ∗ scopeAny c)
def Φ₁ (c : Dev nD) : sProp 𝕄 :=
  iprop((semVal (cell c 0) 0 ∗ semVal (cell c 1) 0) ∗ (semVal (cell c 2) 0 ∗ semVal (cell c 3) 0 ∗ semVal (cell c 4) 0)
    ∗ (semVal (cell c 5) 0 ∗ semVal (cell c 6) 0 ∗ semVal (cell c 7) 0) ∗ scopeAny c)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xAt m c
    | ⟨1, _⟩ => aAt m c
    | ⟨2, _⟩ => bAt m c
    | ⟨3, _⟩ => cAt m c
    | ⟨4, _⟩ => outAt m c
  Φ t := match t with
    | ⟨0, _⟩ => Φ₀ m c
    | ⟨_ + 1, _⟩ => Φ₁ c
  q _ := fullShare
  owed t := match t with
    | ⟨0, _⟩ => oB0 c
    | ⟨_ + 1, _⟩ => 0

omit [FloatOps F] in
theorem sepW (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at the contents `X`. -/
def stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_out (c : Dev nD) (b : Ref sig .tc) (X : b.ty.Contents (Elt F)) : (stg c b X : sProp 𝕄) ⊢ held c b X := by
  unfold stg held
  iintro ⟨%f, %h, H⟩
  rw [← h]; iexact H
omit [FloatOps F] in
theorem stg_in (c : Dev nD) (b : Ref sig .tc) (X : b.ty.Contents (Elt F)) : (held c b X : sProp 𝕄) ⊢ stg c b X := by
  unfold stg held
  iintro H
  iexists X; isplitr; · (ipureintro; rfl)
  iexact H

abbrev bf (c : Dev nD) (w : Fin cfg0.W) (d) := (dats (F := F) m ρ 0 c).before w t0_0 d

theorem bf0 (c : Dev nD) (d) : bf m ρ c (0 : Fin 5) d = xAt m c := by unfold bf Dat.before; rw [if_pos (fetch0_0 t0_0)]; rfl
theorem bf1 (c : Dev nD) (d) : bf m ρ c (1 : Fin 5) d = aAt m c := by unfold bf Dat.before; rw [if_pos (fetch0_1 t0_0)]; rfl
theorem bf2 (c : Dev nD) (d) : bf m ρ c (2 : Fin 5) d = bAt m c := by unfold bf Dat.before; rw [if_pos (fetch0_2 t0_0)]; rfl
theorem bf3 (c : Dev nD) (d) : bf m ρ c (3 : Fin 5) d = cAt m c := by unfold bf Dat.before; rw [if_pos (fetch0_3 t0_0)]; rfl

/-! ## The body's obligation -/

def bodyPre (c : Dev nD) : sProp 𝕄 :=
  iprop(Φ₀ m c ∗ (dats m ρ 0 c).owesAt () t0_0.castSucc
    ∗ (∃ d, stg c cc0_stg0_0 (bf m ρ c (0 : Fin 5) d))
    ∗ (∃ d, stg c cc0_stg1_0 (bf m ρ c (1 : Fin 5) d))
    ∗ (∃ d, stg c cc0_stg2_0 (bf m ρ c (2 : Fin 5) d))
    ∗ (∃ d, stg c cc0_stg3_0 (bf m ρ c (3 : Fin 5) d))
    ∗ (∃ d, stg c cc0_stg4_0 (bf m ρ c (4 : Fin 5) d)))
def bodyPost (c : Dev nD) : sProp 𝕄 :=
  iprop(Φ₁ c ∗ (dats m ρ 0 c).owesAt () t0_0.succ
    ∗ stg c cc0_stg0_0 (xAt m c) ∗ stg c cc0_stg1_0 (aAt m c) ∗ stg c cc0_stg2_0 (bAt m c) ∗ stg c cc0_stg3_0 (cAt m c) ∗ stg c cc0_stg4_0 (outAt m c))

theorem positions (c : Dev nD) : (bigSep Finset.univ fun k : Fin 8 => atPos ER (kcell (c, k)) 0 ∅ 0 : sProp 𝕄)
    ⊢ iprop((atPos ER (cell c 0) 0 ∅ 0 ∗ atPos ER (cell c 1) 0 ∅ 0)
        ∗ (atPos ER (cell c 2) 0 ∅ 0 ∗ atPos ER (cell c 3) 0 ∅ 0 ∗ atPos ER (cell c 4) 0 ∅ 0)
        ∗ (atPos ER (cell c 5) 0 ∅ 0 ∗ atPos ER (cell c 6) 0 ∅ 0 ∗ atPos ER (cell c 7) 0 ∅ 0)) := by
  rw [sep8]
  iintro ⟨H0, H1, H2, H3, H4, H5⟩
  isplitl [H0 H1]; · isplitl [H0] <;> iassumption
  isplitl [H2 H3 H4]
  · isplitl [H2]; · iexact H2
    isplitl [H3] <;> iassumption
  iexact H5
theorem tokens (c : Dev nD) : (toks c : sProp 𝕄)
    ⊢ iprop((dutyTok ER (cell 0 0) 0 c ∗ dutyTok ER (cell 1 0) 0 c ∗ dutyTok ER (cell 2 0) 0 c ∗ dutyTok ER (cell 3 0) 0 c)
        ∗ (dutyTok ER (cell 0 1) 0 c ∗ dutyTok ER (cell 1 1) 0 c ∗ dutyTok ER (cell 2 1) 0 c ∗ dutyTok ER (cell 3 1) 0 c)
        ∗ (dutyTok ER (cell c 2) 0 0 ∗ dutyTok ER (cell c 3) 0 0 ∗ dutyTok ER (cell c 4) 0 0)
        ∗ (dutyTok ER (cell (tgt c 0) 5) 0 0 ∗ dutyTok ER (cell (tgt c 1) 6) 0 0 ∗ dutyTok ER (cell (tgt c 2) 7) 0 0)) := by
  unfold toks
  rw [sep14]
  iintro ⟨H0, H1, H2, H3, H4, H5, H6, H7, H8, H9, H10, H11⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  isplitl [H8 H9 H10]
  · isplitl [H8]; · iexact H8
    isplitl [H9]; · iexact H9
    iexact H10
  iexact H11

set_option maxRecDepth 4000 in
theorem body_post (c : Dev nD) :
    iprop(ow c 0
            ∗ (semVal (cell c 0) 0 ∗ semVal (cell c 1) 0) ∗ (semVal (cell c 2) 0 ∗ semVal (cell c 3) 0 ∗ semVal (cell c 4) 0)
            ∗ (semVal (cell c 5) 0 ∗ semVal (cell c 6) 0 ∗ semVal (cell c 7) 0)
            ∗ (held c cc0_stg0_0 (xAt m c) ∗ held c cc0_stg1_0 (aAt m c) ∗ held c cc0_stg2_0 (bAt m c) ∗ held c cc0_stg3_0 (cAt m c) ∗ held c cc0_stg4_0 (outAt m c))
            ∗ held c cc0_scratch0 (scanAt m c k0_t1_loop.trips).2 ∗ held c cc0_scratch1 (hend m c) ∗ (slotAny c 0 ∗ slotAny c 1 ∗ slotAny c 2)
            ∗ held c cc0_scratch3 (carryAt m c)) ⊢ bodyPost m ρ c := by
  unfold bodyPost Φ₁ scopeAny Dat.owesAt Pipeline.owesWithin ow
  rw [show (dats m ρ 0 c).owed t0_0.succ = 0 from rfl]
  have : ∀ e, Nonempty (Elt F e) := fun e => inferInstance
  iintro ⟨⟨%W, HO⟩, H01, H2, H5, ⟨Hx, Ha, Hb, Hc, Ho⟩, Hu, He, Hs, Hh⟩
  ihave Hr := (slots_join c) $$ Hs
  isplitl [H01 H2 H5 Hu He Hr Hh]
  · isplitl [H01]; · iexact H01
    isplitl [H2]; · iexact H2
    isplitl [H5]; · iexact H5
    isplitl [Hu]; · iexists _; iexact Hu
    isplitl [He]; · iexists _; iexact He
    isplitl [Hr]; · iexact Hr
    iexists _; iexact Hh
  isplitl [HO]
  · iexists W
    isplitr; · ipureintro; exact fun _ _ => Or.inl trivial
    iexact HO
  isplitl [Hx]; · iapply (stg_in c cc0_stg0_0 _); iexact Hx
  isplitl [Ha]; · iapply (stg_in c cc0_stg1_0 _); iexact Ha
  isplitl [Hb]; · iapply (stg_in c cc0_stg2_0 _); iexact Hb
  isplitl [Hc]; · iapply (stg_in c cc0_stg3_0 _); iexact Hc
  iapply (stg_in c cc0_stg4_0 _); iexact Ho

set_option maxRecDepth 4000 in
theorem body_run (c : Dev nD) : bodyPre m ρ c ⊢ wpc c (cc0_body xM (Memref.isWhole_whole _) aM (Memref.isWhole_whole _) bM (Memref.isWhole_whole _) cM (Memref.isWhole_whole _)
              oM (Memref.isWhole_whole _) uM (Memref.isWhole_whole _) eM (Memref.isWhole_whole _) rM (Memref.isWhole_whole _) hM (Memref.isWhole_whole _)
              cc0_scratch4 cc0_scratch5 cc0_scoped0) (fun _ => bodyPost m ρ c) := by
  unfold bodyPre Φ₀ start scopeAny G' ghost Dat.owesAt Pipeline.owesWithin
  rw [show (dats m ρ 0 c).owed t0_0.castSucc = oB0 c from rfl]
  iintro ⟨⟨⟨⟨%K, HR, Hat, Htk⟩, ⟨Hcr, Hdue⟩, HL⟩, ⟨%u, Hu⟩, ⟨%e, He⟩, ⟨%r, Hr⟩, ⟨%h, Hh⟩⟩, ⟨%W, -, HO⟩, ⟨%d0, Hx⟩, ⟨%d1, Ha⟩, ⟨%d2, Hb⟩, ⟨%d3, Hc⟩, ⟨%d4, Ho⟩⟩
  rw [bf0, bf1, bf2, bf3]
  ihave Hx := (stg_out c cc0_stg0_0 _) $$ Hx
  ihave Ha := (stg_out c cc0_stg1_0 _) $$ Ha
  ihave Hb := (stg_out c cc0_stg2_0 _) $$ Hb
  ihave Hc := (stg_out c cc0_stg3_0 _) $$ Hc
  ihave Ho := (stg_out c cc0_stg4_0 _) $$ Ho
  ihave Hs := (slots_cut c r) $$ Hr
  ihave Hd := (deal_slots c) $$ [Hs Hdue]
  · isplitl [Hs] <;> iassumption
  icases Hd with ⟨Hbp, Hri⟩
  ihave Hat := (positions (F := F) c) $$ Hat
  icases Hat with ⟨Ha0, Ha2, Ha5⟩
  ihave Htk := (tokens (F := F) c) $$ Htk
  icases Htk with ⟨Ht0, Ht4, Ht8, Ht11⟩
  iapply (whole_body m K c (fun _ => bodyPost m ρ c) (bf m ρ c (4 : Fin 5) d4) u e h) $$ [HR HL HO Ha0 Ha2 Ha5 Ht0 Ht4 Ht8 Ht11 Hcr Hbp Hri Hx Ha Hb Hc Ho Hu He Hh]
  · isplitl [HR]; · iexact HR
    isplitl [HL]; · iexact HL
    isplitl [HO]; · unfold ow; iexists W; iexact HO
    isplitl [Ht0]; · iexact Ht0
    isplitl [Ht4]; · iexact Ht4
    isplitl [Ht8]; · iexact Ht8
    isplitl [Ht11]; · iexact Ht11
    isplitl [Ha0]; · iexact Ha0
    isplitl [Ha2]; · iexact Ha2
    isplitl [Ha5]; · iexact Ha5
    isplitl [Hcr]; · iexact Hcr
    isplitl [Hbp]; · iexact Hbp
    isplitl [Hri]; · iexact Hri
    isplitl [Hx Ha Hb Hc Ho]
    · isplitl [Hx]; · iexact Hx
      isplitl [Ha]; · iexact Ha
      isplitl [Hb]; · iexact Hb
      isplitl [Hc]; · iexact Hc
      iexact Ho
    isplitl [Hu]; · iexact Hu
    isplitl [He]; · iexact He
    iexact Hh
  iintro H
  iapply (body_post m ρ c); iexact H

set_option maxRecDepth 4000 in
/-- The body's obligation on device `c`. -/
theorem body_obligation (c : Dev nD) : BodyObligation (dats (F := F) m ρ 0 c) (defs₀ (F := F)) 𝒱₀ () Set.univ := fun t => by
  rw [fin_N0 t]
  rw [sepW, sepW]
  simp only [owns_whole_eq]
  exact body_run m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred oB0 c ∗ prngReg c (ρ c) ∗ G' m c)
      ⊢ |={Set.univ}=> iprop(start m c ∗ emp) := by
  iintro ⟨-, HL, Hcr, -, HG⟩
  ihave Hc := (creds (F := F) c) $$ Hcr
  imodintro
  unfold start
  isplitl
  · isplitl [HG]; · iexact HG
    isplitl [Hc]; · iexact Hc
    iexact HL
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scopeAny
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, show (Pipeline.ownSems0 osem c : sProp 𝕄) = ownZero c from rfl, ownZero_eq, unscopedZero_eq]
  unfold Φ₁ scopeAny
  iintro ⟨⟨H0, H1⟩, ⟨H2, H3, H4⟩, H5, Hr⟩
  isplitl [H0]; · iexact H0
  isplitl [H1 H2 H3 H4 H5]
  · isplitl [H1]; · iexact H1
    isplitl [H2]; · iexact H2
    isplitl [H3]; · iexact H3
    isplitl [H4] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by fin_cases w <;> fin_cases s <;> decide) (by
      rcases t with ⟨_ | _, ht⟩
      · exact above_B0 c
      · exact Above.zero 0)

/-! ## The run -/

/-- The contents of window `w`'s array on device `c` after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with all counters at zero: every weakly fair execution of the four devices
    ends, with every array as the data say and every counter back at zero. -/
theorem run_main : θ_run defs (onTc (τ := τ) (main (F := F))) (start₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := oB0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Scan

end
-- ==== Proof.Ends.lean ====
/-
What the kernel's run leaves: the four inputs as they were, and each device's result array at the value its body
stored.
-/
module

public import proofs.«01_k».proof.Defs
public import proofs.«01_k».proof.Proof.Run
public import proofs.«01_k».proof.Proof.Gen.Kernel
public import Idealize.ShloMosaic.Lib.Pipeline.ValueKit

@[expose] public section

noncomputable section

namespace Cert.Scan

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]
variable (m : (ℓ : Loc nD τ sig) → Buf (Elt F) ℓ) (ρ : Dev nD → PrngReg)

theorem final_x (c : Dev nD) : finalA m ρ c 0 = m ((c : Thread nD τ).loc main_arg0) := (dats m ρ 0 c).arrAt_in (0 : Fin 5) rfl _
theorem final_a (c : Dev nD) : finalA m ρ c 1 = m ((c : Thread nD τ).loc main_arg1) := (dats m ρ 0 c).arrAt_in (1 : Fin 5) rfl _
theorem final_b (c : Dev nD) : finalA m ρ c 2 = m ((c : Thread nD τ).loc main_arg2) := (dats m ρ 0 c).arrAt_in (2 : Fin 5) rfl _
theorem final_c (c : Dev nD) : finalA m ρ c 3 = m ((c : Thread nD τ).loc main_arg3) := (dats m ρ 0 c).arrAt_in (3 : Fin 5) rfl _

/-- The result array ends at what the body left in the output's staging buffer. -/
theorem final_o (c : Dev nD) : finalA m ρ c 4 = outAt m c := by
  funext i
  exact (dats m ρ 0 c).arrAt_emb_eq_after_last (4 : Fin 5) t0_0 (by decide +kernel) i

/-- Every run of the kernel, over any floats: the inputs stay, the result is `outAt`, every counter ends at zero. -/
theorem run_ends : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c (4 : Fin 5)).trans (final_o m ρ c), (h.1 c (0 : Fin 5)).trans (final_x m ρ c),
    (h.1 c (1 : Fin 5)).trans (final_a m ρ c), (h.1 c (2 : Fin 5)).trans (final_b m ρ c), (h.1 c (3 : Fin 5)).trans (final_c m ρ c)⟩, h.2⟩)
    (run_main m ρ)

/-- Every run of the kernel, over any floats: the inputs stay, every counter ends at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => (h.1 c).2, h.2⟩) (run_ends m ρ)

/-- The printed kernel and its idealization have one body table. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- `run_frame` with the body table under another name. -/
theorem run_frame_of (D : Defs nD τ sig (Elt F) (Pipeline.Sig Λ₀ (Fin 1) fun p => (pcfgs (F := F) p).Adm)) (h : D = defs) :
    θ_run D (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) := by
  subst h; exact run_frame m ρ

/-- The printed kernel's frame. -/
theorem frame_kernel : Cert.quiescent_Kernel := fun m ρ _ => run_frame_of (F := Bits) m ρ Cert.Kernel.defs defs_eq

/-- The idealized kernel's frame. -/
theorem frame_ideal : Cert.quiescent_KernelIdeal := fun m ρ _ => run_frame (F := Ideal) m ρ

/-- The same under the precondition. -/
theorem frame_ideal_pre [Cert.Pre_finite_KernelIdeal.Facts] : Cert.quiescent_KernelIdeal_pre_finite_KernelIdeal := fun m ρ _ => frame_ideal m ρ trivial

end Cert.Scan

end
-- ==== Proof.BodySteps.lean ====
/-
The kernel's vector operations, element by element, over the extended reals.
-/
module

public import proofs.«01_k».proof.Proof.Proto
public import Idealize.ShloMosaic.Lib.Pointwise
public import Idealize.ShloMosaic.Lib.DynamicIndex

@[expose] public section

set_option maxRecDepth 16384

noncomputable section

namespace Cert.Scan.Body

open Cert.KernelIdeal Cert.KernelIdeal.Gen Cert.Scan

open Idealize.ShloMosaic

theorem pay1_apply (a : FVec Ideal S256x16 .f32) (n : Fin 16) (d : Fin 256) : k0_pay1 a (ix2 n d) = a (ix2 d n) := by
  pointwise [k0_pay1]

theorem pay2_apply (a : FVec Ideal S256x16 .f32) (n : Fin 16) (d : Fin 256) : k0_pay2 (F := Ideal) a (ix2 n d) = Ideal.exp (a (ix2 d n)) := by
  rw [← pay1_apply a n d]
  pointwise [k0_pay2]

/-- The products the scan starts from. -/
theorem pay4_apply (x : FVec Ideal S4x256x256 .f32) (B : FVec Ideal S4x256x16 .f32) (b : Fin 4) (t : Fin 256) (n : Fin 16) (d : Fin 256) :
    k0_pay4 (k0_pay3 x B) (ix4 b t n d) = x (ix3 b t d) * B (ix3 b t n) := by
  pointwise [k0_pay4, k0_pay3]

theorem pay5_apply (b : Fin 4) (n : Fin 16) (d : Fin 256) : k0_pay5 (F := Ideal) (ix3 b n d) = 0 := by
  pointwise [k0_pay5]

/-- One step of the scan. -/
theorem pay6_apply (r : FVec Ideal S16x256 .f32) (h : FVec Ideal S4x16x256 .f32) (u : FVec Ideal S4x1x16x256 .f32) (b : Fin 4) (n : Fin 16) (d : Fin 256) :
    k0_pay6 r h u (ix3 b n d) = h (ix3 b n d) * r (ix2 n d) + u (ix4 b 0 n d) := by
  pointwise [k0_pay6]

theorem pay7_apply (r : FVec Ideal S16x256 .f32) (h : FVec Ideal S4x16x256 .f32) (u : FVec Ideal S4x1x16x256 .f32) (b : Fin 4) (n : Fin 16) (d : Fin 256) :
    k0_pay7 r h u (ix4 b 0 n d) = h (ix3 b n d) * r (ix2 n d) + u (ix4 b 0 n d) := by
  rw [← pay6_apply]
  pointwise [k0_pay7]

theorem pay8_apply (h : FVec Ideal S4x16x256 .f32) (b : Fin 4) (n : Fin 16) (d : Fin 256) : k0_pay8 h (ix3 b n d) = h (ix3 b n d) := by
  pointwise [k0_pay8]

/-- The states read out along `C`. -/
theorem pay9_apply (g : FVec Ideal S4x256x16x256 .f32) (C : FVec Ideal S4x256x16 .f32) (b : Fin 4) (t : Fin 256) (d : Fin 256) :
    k0_pay9 g C (ix3 b t d) = ∑ n : Fin 16, g (ix4 b t n d) * C (ix3 b t n) := by
  pointwise [k0_pay9]

theorem pay10_apply (b : Fin 4) (n : Fin 16) (d : Fin 256) : k0_pay10 (F := Ideal) (ix3 b n d) = 0 := by
  pointwise [k0_pay10]

/-- One received state added to the carry. -/
theorem addCarry_apply (w : BitVec 32) (a : FVec Ideal S16x256 .f32) (acc e : FVec Ideal S4x16x256 .f32) (b : Fin 4) (n : Fin 16) (d : Fin 256) :
    addCarry w a acc e (ix3 b n d) = acc (ix3 b n d) + e (ix3 b n d) * Ideal.exp (Ideal.ofBits .f32 w * a (ix2 n d)) := by
  pointwise [addCarry]

theorem pay14_apply (y : FVec Ideal S4x16x256 .f32) (b : Fin 4) (n : Fin 16) (d : Fin 256) : k0_pay14 y (ix4 b 0 n d) = y (ix3 b n d) := by
  pointwise [k0_pay14]

/-- The decay over the first rows of the block. -/
theorem pay15_apply (a : FVec Ideal S16x256 .f32) (t : Fin 32) (n : Fin 16) (d : Fin 256) :
    k0_pay15 a (ix4 0 t n d) = Ideal.exp ((((t.val + 1 : ℕ) : ℝ) : EReal) * a (ix2 n d)) := by
  pointwise [k0_pay15]
  rw [show IntOp.addi (BitVec.ofNat 32 t.val) 1#32 = BitVec.ofNat 32 (t.val + 1) from (BitVec.ofNat_add t.val 1).symm]
  show Ideal.exp ((((BitVec.ofNat 32 (t.val + 1)).toInt : ℝ) : EReal) * _) = _
  rw [toInt_ofNat_of_lt (by omega), Int.cast_natCast]

/-- The carry's share added to the first rows of the output. -/
theorem pay16_apply (y : FVec Ideal S4x1x16x256 .f32) (p : FVec Ideal S1x32x16x256 .f32) (C : FVec Ideal S4x256x16 .f32) (o : FVec Ideal S4x32x256 .f32) (b : Fin 4) (t : Fin 32) (d : Fin 256) :
    k0_pay16 y p C o (ix3 b t d) = o (ix3 b t d) + ∑ n : Fin 16, y (ix4 b 0 n d) * p (ix4 0 t n d) * C (ix3 b ⟨t.val, by omega⟩ n) := by
  pointwise [k0_pay16]

theorem lit_256 : Ideal.ofBits .f32 0x43800000#32 = (((256 : ℕ) : ℝ) : EReal) := by
  simp [Ideal.ofBits, Ideal.ieee]
  rw [← EReal.coe_mul]
  norm_num

theorem lit_512 : Ideal.ofBits .f32 0x44000000#32 = (((512 : ℕ) : ℝ) : EReal) := by
  simp [Ideal.ofBits, Ideal.ieee]
  rw [← EReal.coe_mul]
  norm_num

end Cert.Scan.Body

end
-- ==== Proof.Recur.lean ====
/-
The recursion of one lane over the extended reals: over the whole sequence, restarted at each block, and from a block's
start; and how the state carried into a block puts the restarted one right.
-/
module

public import Idealize.ShloMosaic.PureOps.Ideal
public import Idealize.ShloMosaic.Lib.IdealHost
public import Mathlib.Tactic.Ring
public import Mathlib.Tactic.NormNum

@[expose] public section

noncomputable section

namespace Cert.Scan

open Idealize.ShloMosaic

/-- The state after `k` steps of `h ← h · r + u`. -/
def full (r : EReal) (u : ℕ → EReal) : ℕ → EReal
  | 0 => 0
  | k + 1 => full r u k * r + u k

/-- The same, forgetting the state at the start of every block of 256 steps. -/
def cut (r : EReal) (u : ℕ → EReal) : ℕ → EReal
  | 0 => 0
  | k + 1 => (if k % 256 = 0 then 0 else cut r u k) * r + u k

/-- A block's own state: the recursion over the inputs from `s` on. -/
abbrev own (r : EReal) (u : ℕ → EReal) (s : ℕ) : ℕ → EReal := full r fun k => u (s + k)

/-- Inside a block the forgetful state is the block's own. -/
theorem cut_eq_own (r : EReal) (u : ℕ → EReal) (c : ℕ) : ∀ k, k < 256 → cut r u (256 * c + (k + 1)) = own r u (256 * c) (k + 1)
  | 0, _ => by
    show (if (256 * c) % 256 = 0 then 0 else _) * r + u (256 * c) = 0 * r + u (256 * c + 0)
    rw [if_pos (by omega)]; rfl
  | k + 1, h => by
    show (if (256 * c + (k + 1)) % 256 = 0 then 0 else cut r u (256 * c + (k + 1))) * r + u (256 * c + (k + 1)) = _
    rw [if_neg (by omega), cut_eq_own r u c k (by omega)]; rfl

/-- The recursion reads the inputs of the steps taken. -/
theorem full_congr (r : EReal) (u v : ℕ → EReal) : ∀ k, (∀ j, j < k → u j = v j) → full r u k = full r v k
  | 0, _ => rfl
  | k + 1, h => by
    show full r u k * r + u k = full r v k * r + v k
    rw [full_congr r u v k fun j hj => h j (by omega), h k (by omega)]

/-- In the first block the forgetful state is the whole one. -/
theorem cut_eq_full (r : EReal) (u : ℕ → EReal) : ∀ k, k ≤ 256 → cut r u k = full r u k
  | 0, _ => rfl
  | k + 1, h => by
    show (if k % 256 = 0 then 0 else cut r u k) * r + u k = full r u k * r + u k
    by_cases hz : k % 256 = 0
    · obtain rfl : k = 0 := by omega
      rw [if_pos hz]; rfl
    · rw [if_neg hz, cut_eq_full r u k (by omega)]

/-! ## Over the reals -/

def fullR (r : ℝ) (u : ℕ → ℝ) : ℕ → ℝ
  | 0 => 0
  | k + 1 => fullR r u k * r + u k

theorem full_coe (r : ℝ) (u : ℕ → ℝ) : ∀ k, full (r : EReal) (fun k => (u k : EReal)) k = ((fullR r u k : ℝ) : EReal)
  | 0 => EReal.coe_zero.symm
  | k + 1 => by
    show full (r : EReal) (fun k => (u k : EReal)) k * r + u k = _
    rw [full_coe r u k, ← EReal.coe_mul, ← EReal.coe_add]; rfl

/-- The whole recursion past `s`: the state at `s` decayed, plus the recursion from `s`. -/
theorem fullR_add (r : ℝ) (u : ℕ → ℝ) (s : ℕ) : ∀ k, fullR r u (s + k) = fullR r u s * r ^ k + fullR r (fun k => u (s + k)) k
  | 0 => by simp [fullR]
  | k + 1 => by
    show fullR r u (s + k) * r + u (s + k) = fullR r u s * r ^ (k + 1) + (fullR r (fun k => u (s + k)) k * r + u (s + k))
    rw [fullR_add r u s k, pow_succ]; ring

/-- The exponential of `n` times an exponent is the `n`th power, plus infinity aside. -/
theorem exp_nat_mul {a : EReal} {r : ℝ} (ha : a ≠ ⊤) (hr : Ideal.exp a = r) (n : ℕ) : Ideal.exp (((n : ℝ) : EReal) * a) = ((r ^ n : ℝ) : EReal) := by
  induction a using EReal.rec with
  | top => exact absurd rfl ha
  | bot =>
    rw [Ideal.exp_bot] at hr
    have h0 : r = 0 := by exact_mod_cast hr.symm
    subst h0
    rcases Nat.eq_zero_or_pos n with rfl | hn
    · rw [Nat.cast_zero, EReal.coe_zero, zero_mul, ← EReal.coe_zero, Ideal.exp_coe, Real.exp_zero, pow_zero]
    · rw [EReal.coe_mul_bot_of_pos (by exact_mod_cast hn), Ideal.exp_bot, zero_pow (by omega), EReal.coe_zero]
  | coe x =>
    rw [Ideal.exp_coe] at hr
    have h0 : r = Real.exp x := by exact_mod_cast hr.symm
    rw [← EReal.coe_mul, Ideal.exp_coe, h0, ← Real.exp_nat_mul]

/-- The exponential is a real number except at plus infinity. -/
theorem exp_real {a : EReal} (ha : a ≠ ⊤) : ∃ r : ℝ, Ideal.exp a = r := by
  induction a using EReal.rec with
  | top => exact absurd rfl ha
  | bot => exact ⟨0, by rw [Ideal.exp_bot, EReal.coe_zero]⟩
  | coe x => exact ⟨_, Ideal.exp_coe x⟩

/-- The carry of block `c` as the kernel adds it up: the ends of the blocks before, nearest first, each decayed by the
    blocks in between. -/
def carry (r : EReal) (u : ℕ → EReal) (w : ℕ → EReal) (c : ℕ) : EReal :=
  let e k := own r u (256 * (c - 1 - k)) 256 * w k
  let y := if 0 < c then 0 + e 0 else 0
  let y := if 1 < c then y + e 1 else y
  if 2 < c then y + e 2 else y

/-- With real inputs the carry of block `c` is the whole recursion's state at its start. -/
theorem carry_eq (r : ℝ) (u : ℕ → ℝ) (c : ℕ) (hc : c < 4) :
    carry r (fun k => (u k : EReal)) (fun k => ((r ^ (256 * k) : ℝ) : EReal)) c = ((fullR r u (256 * c) : ℝ) : EReal) := by
  have h1 := fullR_add r u 256 256
  have h2 := fullR_add r u 512 256
  have key (s) : own r (fun k => (u k : EReal)) s 256 = ((fullR r (fun k => u (s + k)) 256 : ℝ) : EReal) := full_coe r (fun k => u (s + k)) 256
  unfold carry
  simp only [key]
  obtain rfl | rfl | rfl | rfl : c = 0 ∨ c = 1 ∨ c = 2 ∨ c = 3 := by omega
  · simp [fullR]
  · simp only [Nat.reduceMul, Nat.reduceSub, Nat.reduceLT, if_true, if_false, zero_add, pow_zero, ← EReal.coe_mul, mul_one]
  · simp only [Nat.reduceMul, Nat.reduceSub, Nat.reduceLT, if_true, if_false, zero_add, pow_zero, mul_one, ← EReal.coe_mul, ← EReal.coe_add, Nat.reduceAdd] at h1 ⊢
    rw [h1, add_comm]
  · simp only [Nat.reduceMul, Nat.reduceSub, Nat.reduceLT, if_true, if_false, zero_add, pow_zero, mul_one, ← EReal.coe_mul, ← EReal.coe_add, Nat.reduceAdd] at h1 h2 ⊢
    rw [h2, h1]
    congr 1; ring

/-- One lane of a corrected row: the block's own product plus the carry's is the whole recursion's. -/
theorem corrected {a : EReal} {u : ℕ → EReal} {y : EReal} (ha : a ≠ ⊤) (hu : ∀ k, ∃ v : ℝ, u k = v) (hy : ∃ v : ℝ, y = v)
    (c k : ℕ) (hc : c < 4) :
    own (Ideal.exp a) u (256 * c) k * y
        + carry (Ideal.exp a) u (fun j => Ideal.exp ((((256 * j : ℕ) : ℝ) : EReal) * a)) c * Ideal.exp (((k : ℝ) : EReal) * a) * y
      = full (Ideal.exp a) u (256 * c + k) * y := by
  obtain ⟨r, hr⟩ := exp_real ha
  choose v hv using hu
  obtain rfl : u = fun k => (v k : EReal) := funext hv
  obtain ⟨y, rfl⟩ := hy
  simp only [exp_nat_mul ha hr]
  rw [hr, carry_eq r v c hc, full_coe, fullR_add, show own (r : EReal) (fun k => (v k : EReal)) (256 * c) k = _ from full_coe r (fun k => v (256 * c + k)) k]
  simp only [← EReal.coe_mul, ← EReal.coe_add]
  congr 1; ring

end Cert.Scan

end
-- ==== Proof.BodyValue.lean ====
/-
What the kernel leaves in a block, element by element: the scan is the recursion of every lane from the block's start.
-/
module

public import proofs.«01_k».proof.Proof.BodySteps
public import proofs.«01_k».proof.Proof.Recur

@[expose] public section

set_option maxRecDepth 16384

noncomputable section

namespace Cert.Scan.Body

open Cert.KernelIdeal Cert.KernelIdeal.Gen Cert.Scan

open Idealize.ShloMosaic Idealize.ShloMosaic.TcCoe

variable (m : (ℓ : Loc nD τ sig) → Buf (Elt Ideal) ℓ)

/-- A block that is its whole array reads the array. -/
theorem xAt_eq (c : Dev nD) : xAt m c = m ((c : Thread nD τ).loc main_arg0) :=
  funext fun i => congrArg (m ((c : Thread nD τ).loc main_arg0)) (funext fun a => Fin.ext (win0_0.rect_emb_val_of_index_zero (0 : Fin 1) a ((by decide +kernel : ∀ a, win0_0.index (0 : Fin 1) a = 0) a) i))
theorem aAt_eq (c : Dev nD) : aAt m c = m ((c : Thread nD τ).loc main_arg1) :=
  funext fun i => congrArg (m ((c : Thread nD τ).loc main_arg1)) (funext fun a => Fin.ext (win0_1.rect_emb_val_of_index_zero (0 : Fin 1) a ((by decide +kernel : ∀ a, win0_1.index (0 : Fin 1) a = 0) a) i))
theorem bAt_eq (c : Dev nD) : bAt m c = m ((c : Thread nD τ).loc main_arg2) :=
  funext fun i => congrArg (m ((c : Thread nD τ).loc main_arg2)) (funext fun a => Fin.ext (win0_2.rect_emb_val_of_index_zero (0 : Fin 1) a ((by decide +kernel : ∀ a, win0_2.index (0 : Fin 1) a = 0) a) i))
theorem cAt_eq (c : Dev nD) : cAt m c = m ((c : Thread nD τ).loc main_arg3) :=
  funext fun i => congrArg (m ((c : Thread nD τ).loc main_arg3)) (funext fun a => Fin.ext (win0_3.rect_emb_val_of_index_zero (0 : Fin 1) a ((by decide +kernel : ∀ a, win0_3.index (0 : Fin 1) a = 0) a) i))

theorem trips_eq : k0_t1_loop.trips = 256 := by decide +kernel

theorem slices_row (t : ℕ) (ht : t < 256) : S4x256x16x256.Slices ![0, t, 0, 0] S4x1x16x256 := ⟨rfl, fun a => by fin_cases a <;> simp <;> omega⟩

theorem inb_row (t : ℕ) (ht : t < 256) : ∀ a, (![0, t, 0, 0] : Fin 4 → ℕ) a + S4x1x16x256.size a ≤ S4x256x16x256.size a := fun a => by fin_cases a <;> simp <;> omega

/-- The scan buffer's row that trip `t` loads. -/
theorem readRow (f : FVec Ideal S4x256x16x256 .f32) (t : ℕ) (ht : t < k0_t1_loop.trips) (ht' : t < 256) (b : Fin 4) (n : Fin 16) (d : Fin 256) :
    ((uM : Memref sig .tc .vmem S4x256x16x256 .f32).view.readAt (Elt Ideal) (rowRect ⟨t, ht⟩).toLoadRect f : FVec Ideal S4x1x16x256 .f32) (ix4 b 0 n d)
      = f (ix4 b ⟨t, ht'⟩ n d) := by
  have e : (uM : Memref sig .tc .vmem S4x256x16x256 .f32).view.readAt (Elt Ideal) (rowRect ⟨t, ht⟩).toLoadRect f
      = extractStridedSlice S4x1x16x256 ![0, t, 0, 0] f (slices_row t ht') := by
    refine (View.readAt_unit_congr (Val := Elt Ideal) (uM : Memref sig .tc .vmem S4x256x16x256 .f32).view (k0_off1_eq ⟨t, ht⟩) (k0_off1_inb ⟨t, ht⟩) (inb_row t ht') f).trans ?_
    exact View.ld_unit (Val := Elt Ideal) (S := S4x256x16x256) (e := .f32) f ![0, t, 0, 0] S4x1x16x256.size (inb_row t ht')
  refine (congrFun e _).trans ?_
  pointwise

/-- The scan buffer with the row that trip `t` stores. -/
theorem writeRow (f : FVec Ideal S4x256x16x256 .f32) (w : FVec Ideal S4x1x16x256 .f32) (t : ℕ) (ht : t < k0_t1_loop.trips) (b : Fin 4) (s : Fin 256) (n : Fin 16) (d : Fin 256) :
    (((uM : Memref sig .tc .vmem S4x256x16x256 .f32).access (rowRect ⟨t, ht⟩) : View sig .tc _ _ _).write (Elt Ideal) f w Finset.univ : FVec Ideal S4x256x16x256 .f32) (ix4 b s n d)
      = if s.val = t then w (ix4 b 0 n d) else f (ix4 b s n d) := by
  have ht' : t < 256 := trips_eq ▸ ht
  have e := (View.write_whole_slice_unit (Val := Elt Ideal) (κ := .tc) cc0_scratch0 (k0_off1 ⟨t, ht⟩) S4x1x16x256.size (k0_off1_inb ⟨t, ht⟩) f w).trans
    (updateSlice_congr f rfl (k0_off1_eq ⟨t, ht⟩) _ (slices_row t ht'))
  refine (congrFun e _).trans ?_
  pointwise
  by_cases h : s.val = t
  · rw [dif_pos (by omega), if_pos h]
    congr 2
    exact Fin.ext (by show s.val - t = 0; omega)
  · rw [dif_neg (by omega), if_neg h]

/-! ## The scan -/

/-- The scan buffer's lane `(b, n, d)`, by the row. -/
def rows (u : FVec Ideal S4x256x16x256 .f32) (b : Fin 4) (n : Fin 16) (d : Fin 256) (k : ℕ) : EReal :=
  if h : k < 256 then u (ix4 b ⟨k, h⟩ n d) else 0

theorem rows_of_lt (u : FVec Ideal S4x256x16x256 .f32) (b : Fin 4) (n : Fin 16) (d : Fin 256) (k : ℕ) (h : k < 256) : rows u b n d k = u (ix4 b ⟨k, h⟩ n d) := dif_pos h

theorem scanSt_succ (r : FVec Ideal S16x256 .f32) (u : FVec Ideal S4x256x16x256 .f32) (t : ℕ) (h : t < k0_t1_loop.trips) : scanSt r u (t + 1) =
    (k0_pay6 r (scanSt r u t).1 ((uM : Memref sig .tc .vmem S4x256x16x256 .f32).view.readAt (Elt Ideal) (rowRect ⟨t, h⟩).toLoadRect (scanSt r u t).2),
      ((uM : Memref sig .tc .vmem S4x256x16x256 .f32).access (rowRect ⟨t, h⟩) : View sig .tc _ _ _).write (Elt Ideal) (scanSt r u t).2
        (k0_pay7 r (scanSt r u t).1 ((uM : Memref sig .tc .vmem S4x256x16x256 .f32).view.readAt (Elt Ideal) (rowRect ⟨t, h⟩).toLoadRect (scanSt r u t).2)) Finset.univ) :=
  dif_pos h

/-- One trip, element by element, from the state `g` and the rows `v` before it. -/
theorem trip_apply (r : FVec Ideal S16x256 .f32) (g : FVec Ideal S4x16x256 .f32) (v : FVec Ideal S4x256x16x256 .f32) (t : ℕ) (htr : t < k0_t1_loop.trips) (ht : t < 256) (b : Fin 4) (n : Fin 16) (d : Fin 256) :
    k0_pay6 r g ((uM : Memref sig .tc .vmem S4x256x16x256 .f32).view.readAt (Elt Ideal) (rowRect ⟨t, htr⟩).toLoadRect v) (ix3 b n d) = g (ix3 b n d) * r (ix2 n d) + v (ix4 b ⟨t, ht⟩ n d)
    ∧ ∀ s : Fin 256, (((uM : Memref sig .tc .vmem S4x256x16x256 .f32).access (rowRect ⟨t, htr⟩) : View sig .tc _ _ _).write (Elt Ideal) v
        (k0_pay7 r g ((uM : Memref sig .tc .vmem S4x256x16x256 .f32).view.readAt (Elt Ideal) (rowRect ⟨t, htr⟩).toLoadRect v)) Finset.univ : FVec Ideal S4x256x16x256 .f32) (ix4 b s n d)
      = if s.val = t then g (ix3 b n d) * r (ix2 n d) + v (ix4 b ⟨t, ht⟩ n d) else v (ix4 b s n d) := by
  have e := readRow v t htr ht b n d
  refine ⟨(pay6_apply r g _ b n d).trans (congrArg (fun z : EReal => g (ix3 b n d) * r (ix2 n d) + z) e), fun s => (writeRow v _ t htr b s n d).trans ?_⟩
  by_cases hs : s.val = t
  · rw [if_pos hs, if_pos hs]
    exact (pay7_apply r g _ b n d).trans (congrArg (fun z : EReal => g (ix3 b n d) * r (ix2 n d) + z) e)
  · rw [if_neg hs, if_neg hs]

/-- Before trip `t` the state is the recursion's after `t` steps, and the rows already visited hold the states after them. -/
theorem scanSt_apply (r : FVec Ideal S16x256 .f32) (u : FVec Ideal S4x256x16x256 .f32) (b : Fin 4) (n : Fin 16) (d : Fin 256) (t : ℕ) (ht : t ≤ 256) :
    (scanSt r u t).1 (ix3 b n d) = full (r (ix2 n d)) (rows u b n d) t
    ∧ ∀ s : Fin 256, ((scanSt r u t).2 : FVec Ideal S4x256x16x256 .f32) (ix4 b s n d) = if s.val < t then full (r (ix2 n d)) (rows u b n d) (s.val + 1) else u (ix4 b s n d) := by
  induction t with
  | zero => exact ⟨pay5_apply b n d, fun s => (if_neg (Nat.not_lt_zero _)).symm⟩
  | succ t ih =>
    obtain ⟨h1, h2⟩ := ih (by omega)
    have htr : t < k0_t1_loop.trips := lt_of_lt_of_eq (Nat.lt_of_succ_le ht) trips_eq.symm
    obtain ⟨k1, k2⟩ := trip_apply r (scanSt r u t).1 (scanSt r u t).2 t htr (by omega) b n d
    have hstep : (scanSt r u t).1 (ix3 b n d) * r (ix2 n d) + ((scanSt r u t).2 : FVec Ideal S4x256x16x256 .f32) (ix4 b ⟨t, by omega⟩ n d) = full (r (ix2 n d)) (rows u b n d) (t + 1) := by
      refine (congrArg (fun z : EReal => (scanSt r u t).1 (ix3 b n d) * r (ix2 n d) + z) ((h2 ⟨t, by omega⟩).trans (if_neg (Nat.lt_irrefl t)))).trans ?_
      rw [h1, ← rows_of_lt u b n d t (by omega)]
      rfl
    have e1 := congrArg Prod.fst (scanSt_succ r u t htr)
    have e2 := congrArg Prod.snd (scanSt_succ r u t htr)
    dsimp only at e1 e2
    constructor
    · rw [e1, k1]
      exact hstep
    intro s
    rw [e2, k2 s]
    by_cases hs : s.val = t
    · rw [if_pos hs, if_pos (by omega), hs]
      exact hstep
    · rw [if_neg hs, h2 s]
      by_cases hlt : s.val < t
      · rw [if_pos hlt, if_pos (by omega)]
      · rw [if_neg hlt, if_neg (by omega)]

/-! ## A device's block -/

abbrev arrX (c : Dev nD) : FVec Ideal S4x256x256 .f32 := m ((c : Thread nD τ).loc main_arg0)
abbrev arrA (c : Dev nD) : FVec Ideal S256x16 .f32 := m ((c : Thread nD τ).loc main_arg1)
abbrev arrB (c : Dev nD) : FVec Ideal S4x256x16 .f32 := m ((c : Thread nD τ).loc main_arg2)
abbrev arrC (c : Dev nD) : FVec Ideal S4x256x16 .f32 := m ((c : Thread nD τ).loc main_arg3)

/-- The inputs of lane `(b, d, n)` in device `c`'s block, by the row. -/
def blk (c : Dev nD) (b : Fin 4) (d : Fin 256) (n : Fin 16) (k : ℕ) : EReal :=
  if h : k < 256 then arrX m c (ix3 b ⟨k, h⟩ d) * arrB m c (ix3 b ⟨k, h⟩ n) else 0

theorem rows_uAt (c : Dev nD) (b : Fin 4) (d : Fin 256) (n : Fin 16) : rows (uAt m c) b n d = blk m c b d n := by
  funext k
  unfold rows blk
  by_cases h : k < 256
  · rw [dif_pos h, dif_pos h]
    refine (pay4_apply (xAt m c) (bAt m c) b ⟨k, h⟩ n d).trans ?_
    rw [xAt_eq, bAt_eq]
  · rw [dif_neg h, dif_neg h]

theorem dA_apply (c : Dev nD) (d : Fin 256) (n : Fin 16) : dA m c (ix2 n d) = Ideal.exp (arrA m c (ix2 d n)) := by
  refine (pay2_apply (aAt m c) n d).trans ?_
  rw [aAt_eq]

theorem aT_apply (c : Dev nD) (d : Fin 256) (n : Fin 16) : aT m c (ix2 n d) = arrA m c (ix2 d n) := by
  refine (pay1_apply (aAt m c) n d).trans ?_
  rw [aAt_eq]

/-- What device `c` sends: the recursion over its block, from zero. -/
theorem hend_apply (c : Dev nD) (b : Fin 4) (d : Fin 256) (n : Fin 16) :
    (hend m c : FVec Ideal S4x16x256 .f32) (ix3 b n d) = full (Ideal.exp (arrA m c (ix2 d n))) (blk m c b d n) 256 := by
  refine (pay8_apply _ b n d).trans ?_
  unfold scanAt
  rw [trips_eq, (scanSt_apply (dA m c) (uAt m c) b n d 256 le_rfl).1, rows_uAt, dA_apply]

/-- The block's own output. -/
theorem ownOut_apply (c : Dev nD) (b : Fin 4) (t : Fin 256) (d : Fin 256) :
    (ownOut m c : FVec Ideal S4x256x256 .f32) (ix3 b t d) = ∑ n : Fin 16, full (Ideal.exp (arrA m c (ix2 d n))) (blk m c b d n) (t.val + 1) * arrC m c (ix3 b t n) := by
  refine (pay9_apply _ _ b t d).trans (Finset.sum_congr rfl fun n _ => ?_)
  unfold scanAt
  rw [trips_eq, cAt_eq]
  refine congrArg (· * _) (((scanSt_apply (dA m c) (uAt m c) b n d 256 le_rfl).2 t).trans ?_)
  rw [if_pos t.isLt, rows_uAt, dA_apply]

/-! ## The output -/

theorem slices_head : S4x256x256.Slices ![0, 0, 0] S4x32x256 := ⟨rfl, inb_S4x256x256_S4x32x256_0_0_0⟩

theorem readHead (f : FVec Ideal S4x256x256 .f32) (b : Fin 4) (t : Fin 32) (d : Fin 256) :
    ((oM : Memref sig .tc .vmem S4x256x256 .f32).view.readAt (Elt Ideal) headRect.toLoadRect f : FVec Ideal S4x32x256 .f32) (ix3 b t d) = f (ix3 b ⟨t.val, by omega⟩ d) := by
  have e : (oM : Memref sig .tc .vmem S4x256x256 .f32).view.readAt (Elt Ideal) headRect.toLoadRect f = extractStridedSlice S4x32x256 ![0, 0, 0] f slices_head :=
    View.ld_unit (Val := Elt Ideal) (S := S4x256x256) (e := .f32) f ![0, 0, 0] S4x32x256.size inb_S4x256x256_S4x32x256_0_0_0
  refine (congrFun e _).trans ?_
  pointwise

theorem writeHead (f : FVec Ideal S4x256x256 .f32) (w : FVec Ideal S4x32x256 .f32) (b : Fin 4) (t : Fin 256) (d : Fin 256) :
    (((oM : Memref sig .tc .vmem S4x256x256 .f32).access headRect : View sig .tc _ _ _).write (Elt Ideal) f w Finset.univ : FVec Ideal S4x256x256 .f32) (ix3 b t d)
      = if h : t.val < 32 then w (ix3 b ⟨t.val, h⟩ d) else f (ix3 b t d) := by
  have e := (View.write_whole_slice_unit (Val := Elt Ideal) (κ := .tc) cc0_stg4_0 ![0, 0, 0] S4x32x256.size inb_S4x256x256_S4x32x256_0_0_0 f w).trans
    (updateSlice_congr (s := S4x256x256) (u := S4x32x256) f rfl rfl _ slices_head)
  refine (congrFun e _).trans ?_
  pointwise

/-- The block's own output row. -/
def ownRow (c : Dev nD) (b : Fin 4) (t : Fin 256) (d : Fin 256) : EReal :=
  ∑ n : Fin 16, full (Ideal.exp (arrA m c (ix2 d n))) (blk m c b d n) (t.val + 1) * arrC m c (ix3 b t n)

/-- The block's output: on its first 32 rows the carry's share is added. -/
theorem outAt_apply (c : Dev nD) (b : Fin 4) (t : Fin 256) (d : Fin 256) :
    (outAt m c : FVec Ideal S4x256x256 .f32) (ix3 b t d) =
      if t.val < 32 then ownRow m c b t d
          + ∑ n : Fin 16, carryAt m c (ix3 b n d) * Ideal.exp ((((t.val + 1 : ℕ) : ℝ) : EReal) * arrA m c (ix2 d n)) * arrC m c (ix3 b t n)
      else ownRow m c b t d := by
  refine (writeHead (ownOut m c) _ b t d).trans ?_
  by_cases h : t.val < 32
  · rw [dif_pos h, if_pos h]
    refine (pay16_apply _ _ _ _ b ⟨t.val, h⟩ d).trans ?_
    refine congrArg₂ (fun p q : EReal => p + q) ((readHead (ownOut m c) b ⟨t.val, h⟩ d).trans (ownOut_apply m c b t d)) (Finset.sum_congr rfl fun n _ => ?_)
    rw [pay14_apply, pay15_apply, aT_apply, cAt_eq]
  · rw [dif_neg h, if_neg h]
    exact ownOut_apply m c b t d

/-! ## The carry -/

theorem carryStep_apply (c : Dev nD) (k : Fin 3) (acc : FVec Ideal S4x16x256 .f32) (b : Fin 4) (d : Fin 256) (n : Fin 16) :
    carryStep m c k acc (ix3 b n d) = if k.val < c.val then acc (ix3 b n d)
        + full (Ideal.exp (arrA m (src c k) (ix2 d n))) (blk m (src c k) b d n) 256 * Ideal.exp ((((256 * k.val : ℕ) : ℝ) : EReal) * arrA m c (ix2 d n))
      else acc (ix3 b n d) := by
  unfold carryStep
  by_cases h : k.val < c.val
  · rw [if_pos h, if_pos h, addCarry_apply, aT_apply]
    have hw : Ideal.ofBits .f32 (wlit k) = (((256 * k.val : ℕ) : ℝ) : EReal) := by
      fin_cases k
      · exact Ideal.ofBits_zero_f32.trans (by simp)
      · exact lit_256
      · exact lit_512
    rw [hw]
    exact congrArg (fun e : EReal => acc (ix3 b n d) + e * Ideal.exp ((((256 * k.val : ℕ) : ℝ) : EReal) * arrA m c (ix2 d n))) (hend_apply m (src c k) b d n)
  · rw [if_neg h, if_neg h]

end Cert.Scan.Body

end
-- ==== Proof.HostSteps.lean ====
/-
The three host operations a trip of either reference consists of, element by element: the row of inputs `x · B`, one
step of the state, and the row of outputs.
-/
module

public import proofs.«01_k».proof.Proof.Gen.ReferenceIdeal
public import proofs.«01_k».proof.Proof.Recur
public import Idealize.ShloMosaic.Lib.Pointwise
public import Idealize.ShloMosaic.Lib.DynamicIndex
public import Idealize.ShloMosaic.Lib.WordCmp

@[expose] public section

noncomputable section

namespace Cert.Scan.Host

open Cert.ReferenceIdeal Cert.ReferenceIdeal.Gen

open Idealize.ShloMosaic

/-- The start of a row's slice, from the loop's counter. -/
def startOf (i : IVec S_ 32) : Fin 3 → Int :=
  fun k => (((![constantI S_ 32 0#32, select (cmpi .slt i (constantI S_ 32 0#32)) (addi (id i) (constantI S_ 32 1024#32)) i, constantI S_ 32 0#32] : Fin 3 → IVec S_ 32)) k (Shape.Idx.first h_S_)).toInt

def rowX (x : FVec Ideal S4x1024x256 .f32) (i : IVec S_ 32) : FVec Ideal S4x1x256 .f32 := Host.dynamicSlice S4x1x256 x (startOf i) sliceFits_S4x1024x256_S4x1x256
def rowN (x : FVec Ideal S4x1024x16 .f32) (i : IVec S_ 32) : FVec Ideal S4x1x16 .f32 := Host.dynamicSlice S4x1x16 x (startOf i) sliceFits_S4x1024x16_S4x1x16

/-- One step: the state decayed, plus the row of inputs. -/
def stepH (x : FVec Ideal S4x1024x256 .f32) (B : FVec Ideal S4x1024x16 .f32) (dA : FVec Ideal S1x256x16 .f32) (i : IVec S_ 32) (h : FVec Ideal S4x256x16 .f32) : FVec Ideal S4x256x16 .f32 :=
  addf (mulf h (broadcastInDim S4x256x16 ![0, 1, 2] bcast_S1x256x16_S4x256x16_0_1_2 dA))
    (mulf (broadcastInDim S4x256x16 ![0, 1, 2] bcast_S4x256x1_S4x256x16_0_1_2 (shapeCast S4x256x1 (rowX x i) shapeCasts_S4x1x256_S4x256x1))
      (broadcastInDim S4x256x16 ![0, 1, 2] bcast_S4x1x16_S4x256x16_0_1_2 (rowN B i)))

/-- The output with one row written: the state read out along `C`. -/
def putY (C : FVec Ideal S4x1024x16 .f32) (i : IVec S_ 32) (s : FVec Ideal S4x256x16 .f32) (y : FVec Ideal S4x1024x256 .f32) : FVec Ideal S4x1024x256 .f32 :=
  Host.dynamicUpdateSlice y (broadcastInDim S4x1x256 ![0, 2] bcast_S4x256_S4x1x256_0_2
    (Host.reduceAdd (mulf s (broadcastInDim S4x256x16 ![0, 1, 2] bcast_S4x1x16_S4x256x16_0_1_2 (rowN C i))) (constant S_ .f32 0x00000000#32) reducesTo_S4x256x16_S4x256_d2 h_S_))
    (startOf i) updateFits_S4x1024x256_S4x1x256

theorem startOf_eq (k : ℕ) (hk : k < 1024) (a : Fin 3) : startOf (fun _ => BitVec.ofNat 32 k) a = ((![0, k, 0] : Fin 3 → ℕ) a : ℤ) := by
  fin_cases a
  · rfl
  · exact toInt_wrap_ofNat k (by omega)
  · rfl

theorem slices_x (k : ℕ) (hk : k < 1024) : S4x1024x256.Slices ![0, k, 0] S4x1x256 := ⟨rfl, fun a => by fin_cases a <;> simp <;> omega⟩
theorem slices_n (k : ℕ) (hk : k < 1024) : S4x1024x16.Slices ![0, k, 0] S4x1x16 := ⟨rfl, fun a => by fin_cases a <;> simp <;> omega⟩

theorem rowX_apply (x : FVec Ideal S4x1024x256 .f32) (k : ℕ) (hk : k < 1024) (b : Fin 4) (d : Fin 256) :
    rowX x (fun _ => BitVec.ofNat 32 k) (ix3 b 0 d) = x (ix3 b ⟨k, hk⟩ d) := by
  unfold rowX
  rw [Host.dynamicSlice_eq_extractStridedSlice _ _ _ ![0, k, 0] _ (slices_x k hk) (startOf_eq k hk)]
  pointwise

theorem rowN_apply (x : FVec Ideal S4x1024x16 .f32) (k : ℕ) (hk : k < 1024) (b : Fin 4) (d : Fin 16) :
    rowN x (fun _ => BitVec.ofNat 32 k) (ix3 b 0 d) = x (ix3 b ⟨k, hk⟩ d) := by
  unfold rowN
  rw [Host.dynamicSlice_eq_extractStridedSlice _ _ _ ![0, k, 0] _ (slices_n k hk) (startOf_eq k hk)]
  pointwise

theorem stepH_apply (x : FVec Ideal S4x1024x256 .f32) (B : FVec Ideal S4x1024x16 .f32) (dA : FVec Ideal S1x256x16 .f32) (h : FVec Ideal S4x256x16 .f32)
    (k : ℕ) (hk : k < 1024) (b : Fin 4) (d : Fin 256) (n : Fin 16) :
    stepH x B dA (fun _ => BitVec.ofNat 32 k) h (ix3 b d n) = h (ix3 b d n) * dA (ix3 0 d n) + x (ix3 b ⟨k, hk⟩ d) * B (ix3 b ⟨k, hk⟩ n) := by
  rw [← rowX_apply x k hk, ← rowN_apply B k hk]
  unfold stepH
  pointwise

theorem putY_apply (C : FVec Ideal S4x1024x16 .f32) (s : FVec Ideal S4x256x16 .f32) (y : FVec Ideal S4x1024x256 .f32)
    (k : ℕ) (hk : k < 1024) (b : Fin 4) (t : Fin 1024) (d : Fin 256) :
    putY C (fun _ => BitVec.ofNat 32 k) s y (ix3 b t d) = if t.val = k then ∑ n : Fin 16, s (ix3 b d n) * C (ix3 b ⟨k, hk⟩ n) else y (ix3 b t d) := by
  simp only [← rowN_apply C k hk]
  unfold putY
  rw [Host.dynamicUpdateSlice_eq_updateSlice _ _ _ _ ![0, k, 0] (fun a => by rw [startOf_eq k hk a]; fin_cases a <;> simp <;> omega) (slices_x k hk)]
  pointwise
  by_cases h : t.val = k
  · rw [dif_pos (by omega), if_pos h]
  · rw [dif_neg (by omega), if_neg h]

/-- The state forgotten at the first row of a block. -/
def resetG (i : IVec S_ 32) (g : FVec Ideal S4x256x16 .f32) : FVec Ideal S4x256x16 .f32 :=
  select (broadcastInDim S4x256x16 ![] bcast_S_S4x256x16 (cmpi .eq (andi i (constantI S_ 32 255#32)) (constantI S_ 32 0#32)))
    (broadcastInDim S4x256x16 ![] bcast_S_S4x256x16 (id (constant (F := Ideal) S_ .f32 0x00000000#32))) g

/-- The one state on a block's first 32 rows, the other on the rest. -/
def pick (i : IVec S_ 32) (h g : FVec Ideal S4x256x16 .f32) : FVec Ideal S4x256x16 .f32 :=
  select (broadcastInDim S4x256x16 ![] bcast_S_S4x256x16 (cmpi .slt (andi i (constantI S_ 32 255#32)) (constantI S_ 32 32#32))) h g

theorem and_255 (k : ℕ) (hk : k < 1024) : BitVec.ofNat 32 k &&& 255#32 = BitVec.ofNat 32 (k % 256) := by
  apply BitVec.eq_of_toNat_eq
  rw [BitVec.toNat_and, BitVec.toNat_ofNat, BitVec.toNat_ofNat, BitVec.toNat_ofNat, Nat.mod_eq_of_lt (by omega : k < 2 ^ 32), Nat.mod_eq_of_lt (by omega : k % 256 < 2 ^ 32)]
  exact Nat.and_two_pow_sub_one_eq_mod k 8

theorem resetG_apply (g : FVec Ideal S4x256x16 .f32) (k : ℕ) (hk : k < 1024) (b : Fin 4) (d : Fin 256) (n : Fin 16) :
    resetG (fun _ => BitVec.ofNat 32 k) g (ix3 b d n) = if k % 256 = 0 then 0 else g (ix3 b d n) := by
  unfold resetG
  pointwise
  rw [show IntOp.andi (BitVec.ofNat 32 k) 255#32 = BitVec.ofNat 32 (k % 256) from and_255 k hk]
  by_cases hz : k % 256 = 0
  · rw [if_pos hz, hz]
    exact (ValueIdx.select_one _ _).trans Ideal.ofBits_zero_f32
  · rw [if_neg hz, (WordCmp.cmpi_eq_ofNat_eq_zero_iff (by omega) (by omega)).2 hz]
    exact ValueIdx.select_zero _ _

theorem pick_apply (h g : FVec Ideal S4x256x16 .f32) (k : ℕ) (hk : k < 1024) (b : Fin 4) (d : Fin 256) (n : Fin 16) :
    pick (fun _ => BitVec.ofNat 32 k) h g (ix3 b d n) = if k % 256 < 32 then h (ix3 b d n) else g (ix3 b d n) := by
  unfold pick
  pointwise
  rw [show IntOp.andi (BitVec.ofNat 32 k) 255#32 = BitVec.ofNat 32 (k % 256) from and_255 k hk]
  by_cases hz : k % 256 < 32
  · rw [if_pos hz, (WordCmp.cmpi_slt_ofNat_eq_one_iff (by omega) (by omega)).2 hz]
    exact ValueIdx.select_one _ _
  · rw [if_neg hz, (WordCmp.cmpi_slt_ofNat_eq_zero_iff (by omega) (by omega)).2 (by omega)]
    exact ValueIdx.select_zero _ _

/-- The decay, laid out over a leading axis of one. -/
theorem decay_apply (A : FVec Ideal S256x16 .f32) (d : Fin 256) (n : Fin 16) :
    broadcastInDim S1x256x16 ![1, 2] bcast_S256x16_S1x256x16_1_2 (Idealize.ShloMosaic.Host.exp A) (ix3 0 d n) = Ideal.exp (A (ix2 d n)) := by
  pointwise

/-! ## The lane's inputs, and what the two recursions put out -/

/-- The inputs of lane `(b, d, n)`, by the row. -/
def lane (x : FVec Ideal S4x1024x256 .f32) (B : FVec Ideal S4x1024x16 .f32) (b : Fin 4) (d : Fin 256) (n : Fin 16) (k : ℕ) : EReal :=
  if h : k < 1024 then x (ix3 b ⟨k, h⟩ d) * B (ix3 b ⟨k, h⟩ n) else 0

theorem lane_of_lt (x : FVec Ideal S4x1024x256 .f32) (B : FVec Ideal S4x1024x16 .f32) (b : Fin 4) (d : Fin 256) (n : Fin 16) (k : ℕ) (h : k < 1024) :
    lane x B b d n k = x (ix3 b ⟨k, h⟩ d) * B (ix3 b ⟨k, h⟩ n) := dif_pos h

/-- The reference's output: the state after row `t`, read out along `C`. -/
def fullOut (x : FVec Ideal S4x1024x256 .f32) (A : FVec Ideal S256x16 .f32) (B C : FVec Ideal S4x1024x16 .f32) (b : Fin 4) (t : Fin 1024) (d : Fin 256) : EReal :=
  ∑ n : Fin 16, full (Ideal.exp (A (ix2 d n))) (lane x B b d n) (t.val + 1) * C (ix3 b t n)

/-- The truncated reference's output: past a block's first 32 rows, the state restarted at the block. -/
def cutOut (x : FVec Ideal S4x1024x256 .f32) (A : FVec Ideal S256x16 .f32) (B C : FVec Ideal S4x1024x16 .f32) (b : Fin 4) (t : Fin 1024) (d : Fin 256) : EReal :=
  ∑ n : Fin 16, (if t.val % 256 < 32 then full (Ideal.exp (A (ix2 d n))) (lane x B b d n) (t.val + 1) else cut (Ideal.exp (A (ix2 d n))) (lane x B b d n) (t.val + 1)) * C (ix3 b t n)

end Cert.Scan.Host

end
-- ==== Proof.Joined.lean ====
/-
The devices' blocks put together: what each device stores is its block of the truncated recursion's output, and of the
whole recursion's on the rows that the carry reaches.
-/
module

public import proofs.«01_k».proof.Proof.BodyValue
public import proofs.«01_k».proof.Proof.HostSteps

@[expose] public section

noncomputable section

namespace Cert.Scan.Body

open Cert.KernelIdeal Cert.KernelIdeal.Gen Cert.Scan
open Cert.Scan.Host (lane lane_of_lt fullOut cutOut)

open Idealize.ShloMosaic Idealize.ShloMosaic.TcCoe

variable (m : (ℓ : Loc nD τ sig) → Buf (Elt Ideal) ℓ)

abbrev WholeX : Type := FVec Ideal Cert.ReferenceIdeal.S4x1024x256 .f32
abbrev WholeN : Type := FVec Ideal Cert.ReferenceIdeal.S4x1024x16 .f32

/-- Row `t` of device `c`'s block, in the whole array. -/
def at_ (c : Dev nD) (t : Fin 256) : Fin 1024 := ⟨256 * c.val + t.val, by have := c.isLt; show _ < 1024; simp only [nD] at this; omega⟩

/-- The devices' blocks are those of the arrays `X`, `B` and `C`, and each holds `A`. -/
structure Shards (X : WholeX) (A : FVec Ideal S256x16 .f32) (B C : WholeN) : Prop where
  hx : ∀ c b t d, arrX m c (ix3 b t d) = X (ix3 b (at_ c t) d)
  ha : ∀ c, arrA m c = A
  hb : ∀ c b t n, arrB m c (ix3 b t n) = B (ix3 b (at_ c t) n)
  hc : ∀ c b t n, arrC m c (ix3 b t n) = C (ix3 b (at_ c t) n)

variable {m} {X : WholeX} {A : FVec Ideal S256x16 .f32} {B C : WholeN}

/-- A block's inputs are the lane's from the block's first row on. -/
theorem blk_eq (H : Shards m X A B C) (c : Dev nD) (b : Fin 4) (d : Fin 256) (n : Fin 16) (k : ℕ) (hk : k < 256) :
    blk m c b d n k = lane X B b d n (256 * c.val + k) := by
  unfold blk
  rw [dif_pos hk, H.hx, H.hb]
  exact (lane_of_lt X B b d n (256 * c.val + k) (at_ c ⟨k, hk⟩).isLt).symm

theorem full_blk (H : Shards m X A B C) (c : Dev nD) (b : Fin 4) (d : Fin 256) (n : Fin 16) (r : EReal) (k : ℕ) (hk : k ≤ 256) :
    full r (blk m c b d n) k = own r (lane X B b d n) (256 * c.val) k :=
  full_congr r _ _ k fun j hj => blk_eq H c b d n j (by omega)

theorem src_val (c : Dev nD) (k : Fin 3) (h : k.val < c.val) : (src c k).val = c.val - 1 - k.val := by
  revert c k; decide

/-- The carry that the kernel adds up is the one of the recursion's lane. -/
theorem carryAt_apply (H : Shards m X A B C) (c : Dev nD) (b : Fin 4) (d : Fin 256) (n : Fin 16) :
    carryAt m c (ix3 b n d) = carry (Ideal.exp (A (ix2 d n))) (lane X B b d n) (fun j => Ideal.exp ((((256 * j : ℕ) : ℝ) : EReal) * A (ix2 d n))) c.val := by
  have key (k : Fin 3) (acc : FVec Ideal S4x16x256 .f32) (y : EReal) (hy : acc (ix3 b n d) = y) : carryStep m c k acc (ix3 b n d)
      = if k.val < c.val then y + own (Ideal.exp (A (ix2 d n))) (lane X B b d n) (256 * (c.val - 1 - k.val)) 256 * Ideal.exp ((((256 * k.val : ℕ) : ℝ) : EReal) * A (ix2 d n)) else y := by
    rw [carryStep_apply, hy]
    by_cases h : k.val < c.val
    · rw [if_pos h, if_pos h, full_blk H _ _ _ _ _ _ le_rfl, H.ha, H.ha, src_val c k h]
    · rw [if_neg h, if_neg h]
  unfold carryAt carry
  exact key 2 _ _ (key 1 _ _ (key 0 _ _ (pay10_apply b n d)))

/-- What a device stores is its block of the truncated output. -/
theorem outAt_cut (H : Shards m X A B C) (hA : ∀ i, A i ≠ (⊤ : EReal)) (hX : ∀ i, ∃ v : ℝ, X i = v) (hB : ∀ i, ∃ v : ℝ, B i = v) (hC : ∀ i, ∃ v : ℝ, C i = v)
    (c : Dev nD) (b : Fin 4) (t : Fin 256) (d : Fin 256) :
    (outAt m c : FVec Ideal S4x256x256 .f32) (ix3 b t d) = cutOut X A B C b (at_ c t) d := by
  have hmod : (at_ c t).val % 256 = t.val := by show (256 * c.val + t.val) % 256 = t.val; omega
  have hown : ownRow m c b t d = ∑ n : Fin 16, own (Ideal.exp (A (ix2 d n))) (lane X B b d n) (256 * c.val) (t.val + 1) * C (ix3 b (at_ c t) n) := by
    unfold ownRow
    refine Finset.sum_congr rfl fun n _ => ?_
    rw [full_blk H _ _ _ _ _ _ (by omega), H.ha, H.hc]
  suffices e : (if t.val < 32 then ownRow m c b t d
      + ∑ n : Fin 16, carryAt m c (ix3 b n d) * Ideal.exp ((((t.val + 1 : ℕ) : ℝ) : EReal) * arrA m c (ix2 d n)) * arrC m c (ix3 b t n)
    else ownRow m c b t d) = cutOut X A B C b (at_ c t) d from (outAt_apply m c b t d).trans e
  rw [hown]
  unfold cutOut
  by_cases h : t.val < 32
  · rw [if_pos h, ← Finset.sum_add_distrib]
    refine Finset.sum_congr rfl fun n _ => ?_
    rw [if_pos (by omega), carryAt_apply H, H.ha, H.hc]
    refine corrected (hA _) (fun k => ?_) (hC _) c.val (t.val + 1) c.isLt
    by_cases hk : k < 1024
    · obtain ⟨p, hp⟩ := hX (ix3 b ⟨k, hk⟩ d)
      obtain ⟨q, hq⟩ := hB (ix3 b ⟨k, hk⟩ n)
      exact ⟨p * q, by rw [lane_of_lt _ _ _ _ _ _ hk, hp, hq, EReal.coe_mul]⟩
    · exact ⟨0, (dif_neg hk).trans EReal.coe_zero.symm⟩
  · rw [if_neg h]
    refine Finset.sum_congr rfl fun n _ => ?_
    rw [if_neg (by omega)]
    exact congrArg (· * _) (cut_eq_own _ _ c.val t.val t.isLt).symm

/-- On the mask's rows the truncated output is the whole one. -/
theorem cutOut_eq_fullOut (b : Fin 4) (t : Fin 1024) (d : Fin 256) (h : t.val < 256 ∨ t.val % 256 < 32) : cutOut X A B C b t d = fullOut X A B C b t d := by
  unfold cutOut fullOut
  refine Finset.sum_congr rfl fun n _ => ?_
  by_cases hs : t.val % 256 < 32
  · rw [if_pos hs]
  · rw [if_neg hs, cut_eq_full _ _ _ (by omega)]

/-! ## The blocks named by the layout -/

/-- Where an element of a block lies in the whole array. -/
theorem idx_at {p q : ℕ} (h : Layout.Tiles ⟨3, ![4, 256, p]⟩ ⟨3, ![4, 1024, q]⟩ 1 4) (hq : q = p) (c : Dev nD) (b : Fin 4) (t : Fin 256) (d : Fin p) :
    h.idx c (ix3 b t d) = ix3 b (at_ c t) (d.cast hq.symm) := by
  funext a
  apply Fin.ext
  rw [Layout.Tiles.idx_val]
  fin_cases a
  · rfl
  · show c.val * 256 + t.val = 256 * c.val + t.val; omega
  · rfl

/-- The two facts the claims ask for: the arrays cut by the layout are shards. -/
theorem shards_of (X : WholeX) (A : FVec Ideal S256x16 .f32) (B C : WholeN)
    (h : ∀ c : Dev nD, arrX m c = Layout.block ⟨3, ![4, 256, 256]⟩ ⟨3, ![4, 1024, 256]⟩ 1 4 c X ∧ arrA m c = A
      ∧ arrB m c = Layout.block ⟨3, ![4, 256, 16]⟩ ⟨3, ![4, 1024, 16]⟩ 1 4 c B ∧ arrC m c = Layout.block ⟨3, ![4, 256, 16]⟩ ⟨3, ![4, 1024, 16]⟩ 1 4 c C) : Shards m X A B C where
  hx c b t d := (congrFun (h c).1 _).trans (congrArg X (idx_at (by decide) rfl c b t d))
  ha c := (h c).2.1
  hb c b t n := (congrFun (h c).2.2.1 _).trans (congrArg B (idx_at (by decide) rfl c b t n))
  hc c b t n := (congrFun (h c).2.2.2 _).trans (congrArg C (idx_at (by decide) rfl c b t n))

/-- Every row of the whole array is a row of some block. -/
theorem at_surj (t : Fin 1024) : ∃ (c : Dev nD) (s : Fin 256), at_ c s = t :=
  ⟨⟨t.val / 256, by show _ < 4; omega⟩, ⟨t.val % 256, by omega⟩, Fin.ext (by show 256 * (t.val / 256) + t.val % 256 = t.val; omega)⟩

end Cert.Scan.Body

end
-- ==== Proof.Predicates.lean ====
/-
The precondition and the mask read back, element by element.
-/
module

public import proofs.«01_k».proof.Defs
public import proofs.«01_k».proof.Proof.HostSteps
public import proofs.«01_k».proof.Proof.Gen.Pre_finite_KernelIdeal
public import proofs.«01_k».proof.Proof.Gen.On_carried
public import Idealize.ShloMosaic.Lib.ReduceAll
public import Idealize.ShloMosaic.Lib.Pointwise
public import Idealize.ShloMosaic.Lib.WordCmp

@[expose] public section

noncomputable section

namespace Cert.Scan.Pred

open Idealize.ShloMosaic

/-- The word that the printed comparisons name is plus infinity. -/
theorem inf_top : Ideal.ofBits .f32 0x7F800000#32 = ⊤ := by simp [Ideal.ofBits, Ideal.ieee]

/-- A value below plus infinity is not plus infinity. -/
theorem ne_top_of_olt (x : EReal) (h : Ideal.cmp .olt x (Ideal.ofBits .f32 0x7F800000#32) = 1#1) : x ≠ ⊤ := by
  rintro rfl
  rw [inf_top] at h
  simp [Ideal.cmp] at h

/-- A value whose magnitude is below plus infinity is a real number. -/
theorem real_of_olt (x : EReal) (h : Ideal.cmp .olt (max x (-x)) (Ideal.ofBits .f32 0x7F800000#32) = 1#1) : ∃ v : ℝ, x = v := by
  have hm := ne_top_of_olt _ h
  induction x using EReal.rec with
  | top => exact absurd (by simp) hm
  | bot => exact absurd (by simp) hm
  | coe v => exact ⟨v, rfl⟩

section Pre

open Cert.Pre_finite_KernelIdeal

instance : Subsingleton S_.Idx := ⟨fun i j => funext fun a => a.elim0⟩

/-- What the precondition says of one device's blocks. -/
theorem pre_spec (x : FVec Ideal S4x256x256 .f32) (A : FVec Ideal S256x16 .f32) (B C : FVec Ideal S4x256x16 .f32)
    (h : Cert.Pre_finite_KernelIdeal.fn (F := Ideal) x A B C = fun _ => 1#1) :
    (∀ i, ∃ v : ℝ, x i = v) ∧ (∀ i, A i ≠ (⊤ : EReal)) ∧ (∀ i, ∃ v : ℝ, B i = v) ∧ (∀ i, ∃ v : ℝ, C i = v) := by
  have h0 := congrFun h (Shape.Idx.first Facts.h_S_)
  unfold Cert.Pre_finite_KernelIdeal.fn Cert.Pre_finite_KernelIdeal.fn_part1 at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_olt (x i) (Host.reduce_andi_all _ _ _ _ _ h1 i), fun i => ne_top_of_olt (A i) (Host.reduce_andi_all _ _ _ _ _ h2 i),
    fun i => real_of_olt (B i) (Host.reduce_andi_all _ _ _ _ _ h3 i), fun i => real_of_olt (C i) (Host.reduce_andi_all _ _ _ _ _ h4 i)⟩

end Pre

section On

open Cert.On_carried

/-- The mask's rows: the first block, and the first 32 of every block. -/
theorem mask_spec (x : FVec Ideal S4x1024x256 .f32) (A : FVec Ideal S256x16 .f32) (B C : FVec Ideal S4x1024x16 .f32)
    (b : Fin 4) (t : Fin 1024) (d : Fin 256) (h : Cert.On_carried.fn (F := Ideal) x A B C (ix3 b t d) = 1#1) : t.val < 256 ∨ t.val % 256 < 32 := by
  unfold Cert.On_carried.fn at h
  refine (IntOp.ori_eq_one.1 h).imp (fun h => ?_) fun h => ?_
  · exact (WordCmp.cmpi_slt_ofNat_eq_one_iff (by omega) (by omega)).1 h
  · have e : IntOp.cmpi .slt (BitVec.ofNat 32 t.val &&& 255#32) 32#32 = 1#1 := h
    rw [Host.and_255 t.val t.isLt] at e
    exact (WordCmp.cmpi_slt_ofNat_eq_one_iff (by omega) (by omega)).1 e

end On

end Cert.Scan.Pred

end
-- ==== Proof.RefValue.lean ====
/-
What the reference leaves: its loop, trip by trip, is the recursion of every lane.
-/
module

public import proofs.«01_k».proof.Defs
public import proofs.«01_k».proof.Proof.HostSteps
public import proofs.«01_k».proof.Proof.Gen.ReferenceIdeal.Run

@[expose] public section

set_option maxRecDepth 8192

noncomputable section

namespace Cert.Scan.Ref

open Cert.ReferenceIdeal Cert.ReferenceIdeal.Gen Cert.ReferenceIdeal.Value Cert.Scan.Host

open Idealize.ShloMosaic Idealize.ShloMosaic.TcCoe Idealize.ShloMosaic.Tactic Idealize.ShloMosaic.StableHlo

/-- What the carried buffers hold before trip `k`. -/
structure At (x : FVec Ideal S4x1024x256 .f32) (A : FVec Ideal S256x16 .f32) (B C : FVec Ideal S4x1024x16 .f32) (k : ℕ) (V : Valuation τ sig (Elt Ideal)) : Prop where
  hx : V (Proc.devRef .tc main_v4_0) = x
  hB : V (Proc.devRef .tc main_v4_1) = B
  hC : V (Proc.devRef .tc main_v4_2) = C
  hd : ∀ (d : Fin 256) (n : Fin 16), (V (Proc.devRef .tc main_v4_3) : FVec Ideal S1x256x16 .f32) (ix3 0 d n) = Ideal.exp (A (ix2 d n))
  hi : V (Proc.devRef .tc main_v4_5) = fun _ => BitVec.ofNat 32 k
  hh : ∀ (b : Fin 4) (d : Fin 256) (n : Fin 16), (V (Proc.devRef .tc main_v4_6) : FVec Ideal S4x256x16 .f32) (ix3 b d n) = full (Ideal.exp (A (ix2 d n))) (lane x B b d n) k
  hy : ∀ (b : Fin 4) (t : Fin 1024) (d : Fin 256), t.val < k → (V (Proc.devRef .tc main_v4_7) : FVec Ideal S4x1024x256 .f32) (ix3 b t d) = fullOut x A B C b t d

theorem at_step (x : FVec Ideal S4x1024x256 .f32) (A : FVec Ideal S256x16 .f32) (B C : FVec Ideal S4x1024x16 .f32) (k : ℕ) (hk : k < 1024) (V : Valuation τ sig (Elt Ideal))
    (h : At x A B C k V) : At x A B C (k + 1) (STEP V) := by
  have h27 : res_main_while0b_v27 V = stepH x B (V (Proc.devRef .tc main_v4_3)) (fun _ => BitVec.ofNat 32 k) (V (Proc.devRef .tc main_v4_6)) := by
    have e : res_main_while0b_v27 V = stepH (V (Proc.devRef .tc main_v4_0)) (V (Proc.devRef .tc main_v4_1)) (V (Proc.devRef .tc main_v4_3)) (V (Proc.devRef .tc main_v4_5)) (V (Proc.devRef .tc main_v4_6)) := rfl
    rw [h.hx, h.hB, h.hi] at e
    exact e
  have hs : ∀ (b : Fin 4) (d : Fin 256) (n : Fin 16), (res_main_while0b_v27 V : FVec Ideal S4x256x16 .f32) (ix3 b d n) = full (Ideal.exp (A (ix2 d n))) (lane x B b d n) (k + 1) := fun b d n => by
    rw [h27, stepH_apply x B _ _ k hk, h.hh, h.hd, ← lane_of_lt x B b d n k hk]; rfl
  refine ⟨(STEP_main_v4_0 V).trans h.hx, (STEP_main_v4_1 V).trans h.hB, (STEP_main_v4_2 V).trans h.hC, fun d n => (congrFun (STEP_main_v4_3 V) _).trans (h.hd d n), ?_, ?_, ?_⟩
  · rw [STEP_main_v4_5]
    show addi (V (Proc.devRef .tc main_v4_5)) (constantI S_ 32 1#32) = _
    rw [h.hi]
    funext j
    exact (BitVec.ofNat_add k 1).symm
  · intro b d n
    rw [STEP_main_v4_6]
    exact hs b d n
  · intro b t d ht
    rw [STEP_main_v4_7]
    have e : step_main_v4_7 V = putY C (fun _ => BitVec.ofNat 32 k) (res_main_while0b_v27 V) (V (Proc.devRef .tc main_v4_7)) := by
      have e : step_main_v4_7 V = putY (V (Proc.devRef .tc main_v4_2)) (V (Proc.devRef .tc main_v4_5)) (res_main_while0b_v27 V) (V (Proc.devRef .tc main_v4_7)) := rfl
      rw [h.hC, h.hi] at e
      exact e
    rw [e]
    refine (putY_apply C _ _ k hk b t d).trans ?_
    by_cases htk : t.val = k
    · subst htk
      rw [if_pos rfl]
      exact Finset.sum_congr rfl fun n _ => congrArg (· * _) (hs b d n)
    · rw [if_neg htk]
      exact h.hy b t d (by omega)

theorem at_iter (x : FVec Ideal S4x1024x256 .f32) (A : FVec Ideal S256x16 .f32) (B C : FVec Ideal S4x1024x16 .f32) (V : Valuation τ sig (Elt Ideal)) (h : At x A B C 0 V) :
    ∀ k, k ≤ 1024 → At x A B C k (STEP^[k] V)
  | 0, _ => h
  | k + 1, hk => by
    rw [Function.iterate_succ_apply']
    exact at_step x A B C k (by omega) _ (at_iter x A B C V h k (by omega))

variable (m : (ℓ : Loc nD τ sig) → Buf (Elt Ideal) ℓ) (ρ : Dev nD → PrngReg)

abbrev arrX (c : Dev nD) : FVec Ideal S4x1024x256 .f32 := m ((c.tc : Thread nD τ).loc main_arg0)
abbrev arrA (c : Dev nD) : FVec Ideal S256x16 .f32 := m ((c.tc : Thread nD τ).loc main_arg1)
abbrev arrB (c : Dev nD) : FVec Ideal S4x1024x16 .f32 := m ((c.tc : Thread nD τ).loc main_arg2)
abbrev arrC (c : Dev nD) : FVec Ideal S4x1024x16 .f32 := m ((c.tc : Thread nD τ).loc main_arg3)

theorem at_entry (c : Dev nD) : At (arrX m c) (arrA m c) (arrB m c) (arrC m c) 0 (entryContents preI m c) := by
  refine ⟨?_, ?_, ?_, ?_, ?_, ?_, fun _ _ _ h => absurd h (Nat.not_lt_zero _)⟩
  all_goals simp only [entryContents, afterL_cons, afterL_nil]
  · after_reads_simp
    rfl
  · after_reads_simp
    rfl
  · after_reads_simp
    rfl
  · intro d n
    after_reads_simp
    exact decay_apply (arrA m c) d n
  · after_reads_simp
    rfl
  · intro b d n
    after_reads_simp
    exact Ideal.ofBits_zero_f32
/-- **The reference's run**: every weakly fair execution ends with the recursion's outputs, and the arguments as they were. -/
theorem run_value : θ_run (defs (F := Ideal)) (onTc (τ := τ) (main (F := Ideal))) ⟨m, fun _ => 0, ρ⟩ fun r => ∀ c : Dev nD,
      (∀ (b : Fin 4) (t : Fin 1024) (d : Fin 256), (r.2.mem ((c.tc : Thread nD τ).loc main_v4_7) : FVec Ideal S4x1024x256 .f32) (ix3 b t d) = fullOut (arrX m c) (arrA m c) (arrB m c) (arrC m c) b t d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨fun b t d => (congrFun (h c).1 _).trans ((at_iter _ _ _ _ _ (at_entry m c) 1024 le_rfl).hy b t d t.isLt), (h c).2⟩) (run (F := Ideal) m ρ)

/-- The reference runs, its arguments kept and every counter back at zero. -/
theorem frame : Cert.quiescent_ReferenceIdeal := fun m g _ =>
  (θ_run (defs (F := Ideal)) _ _).mono (fun r h => ⟨fun c => (h c).2, Idealize.ShloMosaic.sem_eq_zero_of_no_sems (by decide) r.2⟩) (run (F := Ideal) m g)

theorem frame_pre [Cert.Pre_finite_ReferenceIdeal.Facts] : Cert.quiescent_ReferenceIdeal_pre_finite_ReferenceIdeal := fun m g _ => frame m g trivial

end Cert.Scan.Ref

end
-- ==== Proof.TruncValue.lean ====
/-
What the truncated reference leaves: its loop, trip by trip, is the two recursions of every lane, the whole one and the one
restarted at each block.
-/
module

public import proofs.«01_k».proof.Defs
public import proofs.«01_k».proof.Proof.HostSteps
public import proofs.«01_k».proof.Proof.Gen.TruncatedIdeal.Run

@[expose] public section

set_option maxRecDepth 8192

noncomputable section

namespace Cert.Scan.Trunc

open Cert.TruncatedIdeal Cert.TruncatedIdeal.Gen Cert.TruncatedIdeal.Value Cert.Scan.Host

open Idealize.ShloMosaic Idealize.ShloMosaic.TcCoe Idealize.ShloMosaic.Tactic Idealize.ShloMosaic.StableHlo

/-- What the carried buffers hold before trip `k`. -/
structure At (x : FVec Ideal S4x1024x256 .f32) (A : FVec Ideal S256x16 .f32) (B C : FVec Ideal S4x1024x16 .f32) (k : ℕ) (V : Valuation τ sig (Elt Ideal)) : Prop where
  hx : V (Proc.devRef .tc main_v4_0) = x
  hB : V (Proc.devRef .tc main_v4_1) = B
  hC : V (Proc.devRef .tc main_v4_2) = C
  hd : ∀ (d : Fin 256) (n : Fin 16), (V (Proc.devRef .tc main_v4_3) : FVec Ideal S1x256x16 .f32) (ix3 0 d n) = Ideal.exp (A (ix2 d n))
  hi : V (Proc.devRef .tc main_v4_5) = fun _ => BitVec.ofNat 32 k
  hh : ∀ (b : Fin 4) (d : Fin 256) (n : Fin 16), (V (Proc.devRef .tc main_v4_6) : FVec Ideal S4x256x16 .f32) (ix3 b d n) = full (Ideal.exp (A (ix2 d n))) (lane x B b d n) k
  hg : ∀ (b : Fin 4) (d : Fin 256) (n : Fin 16), (V (Proc.devRef .tc main_v4_7) : FVec Ideal S4x256x16 .f32) (ix3 b d n) = cut (Ideal.exp (A (ix2 d n))) (lane x B b d n) k
  hy : ∀ (b : Fin 4) (t : Fin 1024) (d : Fin 256), t.val < k → (V (Proc.devRef .tc main_v4_8) : FVec Ideal S4x1024x256 .f32) (ix3 b t d) = cutOut x A B C b t d

theorem at_step (x : FVec Ideal S4x1024x256 .f32) (A : FVec Ideal S256x16 .f32) (B C : FVec Ideal S4x1024x16 .f32) (k : ℕ) (hk : k < 1024) (V : Valuation τ sig (Elt Ideal))
    (h : At x A B C k V) : At x A B C (k + 1) (STEP V) := by
  have h27 : res_main_while0b_v27 V = stepH x B (V (Proc.devRef .tc main_v4_3)) (fun _ => BitVec.ofNat 32 k) (V (Proc.devRef .tc main_v4_6)) := by
    have e : res_main_while0b_v27 V = stepH (V (Proc.devRef .tc main_v4_0)) (V (Proc.devRef .tc main_v4_1)) (V (Proc.devRef .tc main_v4_3)) (V (Proc.devRef .tc main_v4_5)) (V (Proc.devRef .tc main_v4_6)) := rfl
    rw [h.hx, h.hB, h.hi] at e
    exact e
  have hs : ∀ (b : Fin 4) (d : Fin 256) (n : Fin 16), (res_main_while0b_v27 V : FVec Ideal S4x256x16 .f32) (ix3 b d n) = full (Ideal.exp (A (ix2 d n))) (lane x B b d n) (k + 1) := fun b d n => by
    rw [h27, stepH_apply x B _ _ k hk, h.hh, h.hd, ← lane_of_lt x B b d n k hk]; rfl
  have h36 : res_main_while0b_v36 V = stepH x B (V (Proc.devRef .tc main_v4_3)) (fun _ => BitVec.ofNat 32 k) (resetG (fun _ => BitVec.ofNat 32 k) (V (Proc.devRef .tc main_v4_7))) := by
    have e : res_main_while0b_v36 V = stepH (V (Proc.devRef .tc main_v4_0)) (V (Proc.devRef .tc main_v4_1)) (V (Proc.devRef .tc main_v4_3)) (V (Proc.devRef .tc main_v4_5)) (resetG (V (Proc.devRef .tc main_v4_5)) (V (Proc.devRef .tc main_v4_7))) := rfl
    rw [h.hx, h.hB, h.hi] at e
    exact e
  have hc : ∀ (b : Fin 4) (d : Fin 256) (n : Fin 16), (res_main_while0b_v36 V : FVec Ideal S4x256x16 .f32) (ix3 b d n) = cut (Ideal.exp (A (ix2 d n))) (lane x B b d n) (k + 1) := fun b d n => by
    rw [h36, stepH_apply x B _ _ k hk, resetG_apply _ k hk, h.hg, h.hd, ← lane_of_lt x B b d n k hk]; rfl
  refine ⟨(STEP_main_v4_0 V).trans h.hx, (STEP_main_v4_1 V).trans h.hB, (STEP_main_v4_2 V).trans h.hC, fun d n => (congrFun (STEP_main_v4_3 V) _).trans (h.hd d n), ?_, ?_, ?_, ?_⟩
  · rw [STEP_main_v4_5]
    show addi (V (Proc.devRef .tc main_v4_5)) (constantI S_ 32 1#32) = _
    rw [h.hi]
    funext j
    exact (BitVec.ofNat_add k 1).symm
  · intro b d n
    rw [STEP_main_v4_6]
    exact hs b d n
  · intro b d n
    rw [STEP_main_v4_7]
    exact hc b d n
  · intro b t d ht
    rw [STEP_main_v4_8]
    have e : step_main_v4_8 V = putY C (fun _ => BitVec.ofNat 32 k) (pick (fun _ => BitVec.ofNat 32 k) (res_main_while0b_v27 V) (res_main_while0b_v36 V)) (V (Proc.devRef .tc main_v4_8)) := by
      have e : step_main_v4_8 V = putY (V (Proc.devRef .tc main_v4_2)) (V (Proc.devRef .tc main_v4_5)) (pick (V (Proc.devRef .tc main_v4_5)) (res_main_while0b_v27 V) (res_main_while0b_v36 V)) (V (Proc.devRef .tc main_v4_8)) := rfl
      rw [h.hC, h.hi] at e
      exact e
    rw [e]
    refine (putY_apply C _ _ k hk b t d).trans ?_
    by_cases htk : t.val = k
    · subst htk
      rw [if_pos rfl]
      exact Finset.sum_congr rfl fun n _ => congrArg (· * _) (by rw [pick_apply _ _ _ hk, hs, hc])
    · rw [if_neg htk]
      exact h.hy b t d (by omega)

theorem at_iter (x : FVec Ideal S4x1024x256 .f32) (A : FVec Ideal S256x16 .f32) (B C : FVec Ideal S4x1024x16 .f32) (V : Valuation τ sig (Elt Ideal)) (h : At x A B C 0 V) :
    ∀ k, k ≤ 1024 → At x A B C k (STEP^[k] V)
  | 0, _ => h
  | k + 1, hk => by
    rw [Function.iterate_succ_apply']
    exact at_step x A B C k (by omega) _ (at_iter x A B C V h k (by omega))

variable (m : (ℓ : Loc nD τ sig) → Buf (Elt Ideal) ℓ) (ρ : Dev nD → PrngReg)

abbrev arrX (c : Dev nD) : FVec Ideal S4x1024x256 .f32 := m ((c.tc : Thread nD τ).loc main_arg0)
abbrev arrA (c : Dev nD) : FVec Ideal S256x16 .f32 := m ((c.tc : Thread nD τ).loc main_arg1)
abbrev arrB (c : Dev nD) : FVec Ideal S4x1024x16 .f32 := m ((c.tc : Thread nD τ).loc main_arg2)
abbrev arrC (c : Dev nD) : FVec Ideal S4x1024x16 .f32 := m ((c.tc : Thread nD τ).loc main_arg3)

theorem at_entry (c : Dev nD) : At (arrX m c) (arrA m c) (arrB m c) (arrC m c) 0 (entryContents preI m c) := by
  refine ⟨?_, ?_, ?_, ?_, ?_, ?_, ?_, fun _ _ _ h => absurd h (Nat.not_lt_zero _)⟩
  all_goals simp only [entryContents, afterL_cons, afterL_nil]
  · after_reads_simp
    rfl
  · after_reads_simp
    rfl
  · after_reads_simp
    rfl
  · intro d n
    after_reads_simp
    exact decay_apply (arrA m c) d n
  · after_reads_simp
    rfl
  · intro b d n
    after_reads_simp
    exact Ideal.ofBits_zero_f32
  · intro b d n
    after_reads_simp
    exact Ideal.ofBits_zero_f32
/-- **The truncated reference's run**: every weakly fair execution ends with the two recursions' outputs, and the arguments as they were. -/
theorem run_value : θ_run (defs (F := Ideal)) (onTc (τ := τ) (main (F := Ideal))) ⟨m, fun _ => 0, ρ⟩ fun r => ∀ c : Dev nD,
      (∀ (b : Fin 4) (t : Fin 1024) (d : Fin 256), (r.2.mem ((c.tc : Thread nD τ).loc main_v4_8) : FVec Ideal S4x1024x256 .f32) (ix3 b t d) = cutOut (arrX m c) (arrA m c) (arrB m c) (arrC m c) b t d)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c => ⟨fun b t d => (congrFun (h c).1 _).trans ((at_iter _ _ _ _ _ (at_entry m c) 1024 le_rfl).hy b t d t.isLt), (h c).2⟩) (run (F := Ideal) m ρ)

/-- The truncated reference runs, its arguments kept and every counter back at zero. -/
theorem frame : Cert.quiescent_TruncatedIdeal := fun m g _ =>
  (θ_run (defs (F := Ideal)) _ _).mono (fun r h => ⟨fun c => (h c).2, Idealize.ShloMosaic.sem_eq_zero_of_no_sems (by decide) r.2⟩) (run (F := Ideal) m g)

theorem frame_pre [Cert.Pre_finite_ReferenceIdeal.Facts] : Cert.quiescent_TruncatedIdeal_pre_finite_ReferenceIdeal := fun m g _ => frame m g trivial

end Cert.Scan.Trunc

end
-- ==== Proof.Values.lean ====
/-
The two value claims: the kernel against the truncated recursion everywhere, and against the reference on the rows that
the carry reaches.
-/
module

public import proofs.«01_k».proof.Defs
public import proofs.«01_k».proof.Proof.Ends
public import proofs.«01_k».proof.Proof.Joined
public import proofs.«01_k».proof.Proof.Predicates
public import proofs.«01_k».proof.Proof.RefValue
public import proofs.«01_k».proof.Proof.TruncValue

@[expose] public section

noncomputable section

namespace Cert.Scan

open Idealize.ShloMosaic Idealize.SL.Sem
open Cert.Scan.Host (fullOut cutOut)
open Cert.Scan.Body (WholeX WholeN Shards at_ at_surj outAt_cut shards_of idx_at cutOut_eq_fullOut)

/-- The array of the truncated recursion's outputs. -/
def cutArr (X : WholeX) (A : FVec Ideal Cert.ReferenceIdeal.S256x16 .f32) (B C : WholeN) : WholeX := fun i => cutOut X A B C (i 0) (i 1) (i 2)

theorem cutArr_apply (X : WholeX) (A : FVec Ideal Cert.ReferenceIdeal.S256x16 .f32) (B C : WholeN) (b : Fin 4) (t : Fin 1024) (d : Fin 256) :
    cutArr X A B C (ix3 b t d) = cutOut X A B C b t d := rfl

/-- Under the precondition each device's result is its block of the truncated recursion's array. -/
theorem outAt_block [Cert.Pre_finite_KernelIdeal.Facts] (m : (ℓ : Loc Cert.KernelIdeal.nD Cert.KernelIdeal.τ Cert.KernelIdeal.sig) → Buf (Elt Ideal) ℓ)
    (X : WholeX) (A : FVec Ideal Cert.ReferenceIdeal.S256x16 .f32) (B C : WholeN) (hp : Cert.Pre_KernelIdeal_finite_KernelIdeal m) (H : Shards m X A B C) (c : Dev Cert.KernelIdeal.nD) :
    outAt m c = Layout.block ⟨3, ![4, 256, 256]⟩ ⟨3, ![4, 1024, 256]⟩ 1 4 c (cutArr X A B C) := by
  have hp' (c : Dev Cert.KernelIdeal.nD) := Pred.pre_spec _ _ _ _ (hp c)
  have hA (i) : A i ≠ (⊤ : EReal) := H.ha 0 ▸ (hp' 0).2.1 i
  have hX (i) : ∃ v : ℝ, X i = v := by
    obtain ⟨c, s, hs⟩ := at_surj (i 1)
    obtain ⟨v, hv⟩ := (hp' c).1 (ix3 (i 0) s (i 2))
    refine ⟨v, ?_⟩
    rw [eq_ix3 i, ← hs]
    exact (H.hx c (i 0) s (i 2)).symm.trans hv
  have hB (i) : ∃ v : ℝ, B i = v := by
    obtain ⟨c, s, hs⟩ := at_surj (i 1)
    obtain ⟨v, hv⟩ := (hp' c).2.2.1 (ix3 (i 0) s (i 2))
    refine ⟨v, ?_⟩
    rw [eq_ix3 i, ← hs]
    exact (H.hb c (i 0) s (i 2)).symm.trans hv
  have hC (i) : ∃ v : ℝ, C i = v := by
    obtain ⟨c, s, hs⟩ := at_surj (i 1)
    obtain ⟨v, hv⟩ := (hp' c).2.2.2 (ix3 (i 0) s (i 2))
    refine ⟨v, ?_⟩
    rw [eq_ix3 i, ← hs]
    exact (H.hc c (i 0) s (i 2)).symm.trans hv
  funext i
  obtain ⟨b, t, d, rfl⟩ : ∃ (b : Fin 4) (t : Fin 256) (d : Fin 256), i = ix3 b t d := ⟨i 0, i 1, i 2, eq_ix3 i⟩
  refine (outAt_cut H hA hX hB hC c b t d).trans ?_
  exact (congrArg (cutArr X A B C) (idx_at (by decide) rfl c b t d)).symm

/-- The kernel computes the truncated recursion. -/
theorem truncated_value [Cert.Pre_finite_KernelIdeal.Facts] : Cert.algebraic_KernelIdeal_TruncatedIdeal_pre_finite_KernelIdeal := by
  intro m g m' g' hp hin
  have H := shards_of (m := m) (Trunc.arrX m' 0) (Trunc.arrA m' 0) (Trunc.arrB m' 0) (Trunc.arrC m' 0) hin
  refine ⟨cutArr (Trunc.arrX m' 0) (Trunc.arrA m' 0) (Trunc.arrB m' 0) (Trunc.arrC m' 0), ?_, ?_⟩
  · exact (θ_run _ _ _).mono (fun r h c => ⟨(h.1 c).1.trans (outAt_block m _ _ _ _ hp H c), (h.1 c).2⟩) (run_ends (F := Ideal) m g)
  · refine (θ_run _ _ _).mono (fun r h => ⟨?_, (h 0).2⟩) (Trunc.run_value m' g')
    funext i
    obtain ⟨b, t, d, rfl⟩ : ∃ (b : Fin 4) (t : Fin 1024) (d : Fin 256), i = ix3 b t d := ⟨i 0, i 1, i 2, eq_ix3 i⟩
    exact (h 0).1 b t d

/-- The kernel computes the reference on the mask's rows. -/
theorem reference_value [Cert.Pre_finite_KernelIdeal.Facts] : Cert.algebraic_KernelIdeal_ReferenceIdeal_on_carried_pre_finite_KernelIdeal := by
  intro m g m' g' hp hin
  have H := shards_of (m := m) (Ref.arrX m' 0) (Ref.arrA m' 0) (Ref.arrB m' 0) (Ref.arrC m' 0) hin
  refine ⟨cutArr (Ref.arrX m' 0) (Ref.arrA m' 0) (Ref.arrB m' 0) (Ref.arrC m' 0), ?_, ?_⟩
  · exact (θ_run _ _ _).mono (fun r h c => ⟨fun i _ => congrFun ((h.1 c).1.trans (outAt_block m _ _ _ _ hp H c)) i, (h.1 c).2⟩) (run_ends (F := Ideal) m g)
  · refine (θ_run _ _ _).mono (fun r h => ⟨?_, (h 0).2⟩) (Ref.run_value m' g')
    intro i
    obtain ⟨b, t, d, rfl⟩ : ∃ (b : Fin 4) (t : Fin 1024) (d : Fin 256), i = ix3 b t d := ⟨i 0, i 1, i 2, eq_ix3 i⟩
    exact fun hm => ((h 0).1 b t d).trans (cutOut_eq_fullOut b t d (Pred.mask_spec _ _ _ _ b t d hm)).symm

end Cert.Scan

end
-- ==== Proof.Omission.lean ====
/-
Past the first 32 rows of a block the kernel is not the reference: an input at which the truncated output, which is the
kernel's, and the whole one differ.
-/
module

public import proofs.«01_k».proof.Proof.HostSteps
public import proofs.«01_k».proof.Proof.Joined

@[expose] public section

noncomputable section

namespace Cert.Scan

open Idealize.ShloMosaic
open Cert.Scan.Host (lane lane_of_lt fullOut cutOut)
open Cert.Scan.Body (WholeX WholeN Shards at_ outAt_cut)

/-- With no decay and every input 1 the state counts the steps. -/
theorem fullR_one : ∀ k : ℕ, fullR 1 (fun _ => 1) k = k
  | 0 => by simp [fullR]
  | k + 1 => by
    show fullR 1 (fun _ => 1) k * 1 + 1 = _
    rw [fullR_one k]; push_cast; ring

theorem full_ones (u : ℕ → EReal) (k : ℕ) (hu : ∀ j, j < k → u j = 1) : full (Ideal.exp 0) u k = ((k : ℝ) : EReal) := by
  rw [full_congr _ u (fun _ => ((1 : ℝ) : EReal)) k fun j hj => (hu j hj).trans EReal.coe_one.symm, ← EReal.coe_zero, Ideal.exp_coe, Real.exp_zero]
  exact (full_coe 1 (fun _ => 1) k).trans (congrArg _ (fullR_one k))

def onesX : WholeX := fun _ => (1 : EReal)
def onesN : WholeN := fun _ => (1 : EReal)
def zeroA : FVec Ideal Cert.ReferenceIdeal.S256x16 .f32 := fun _ => (0 : EReal)

theorem lane_ones (b : Fin 4) (d : Fin 256) (n : Fin 16) (k : ℕ) (hk : k < 1024) : lane onesX onesN b d n k = 1 :=
  (lane_of_lt onesX onesN b d n k hk).trans (one_mul (1 : EReal))

/-- At x = B = C = 1 and A = 0, row 288, the reference's output is 16 · 289 = 4624. -/
theorem fullOut_ones (b : Fin 4) (d : Fin 256) : fullOut onesX zeroA onesN onesN b ⟨288, by decide⟩ d = ((4624 : ℝ) : EReal) := by
  have e (n : Fin 16) : full (Ideal.exp (zeroA (ix2 d n))) (lane onesX onesN b d n) 289 * onesN (ix3 b ⟨288, by decide⟩ n) = ((289 : ℝ) : EReal) :=
    (mul_one (M := EReal) _).trans (full_ones _ 289 fun j hj => lane_ones b d n j (by omega))
  refine (Finset.sum_congr rfl fun n _ => e n).trans ?_
  rw [Finset.sum_const, Finset.card_univ, Fintype.card_fin, ← EReal.coe_nsmul]
  norm_num

/-- There the kernel's output is 16 · 33 = 528. -/
theorem cutOut_ones (b : Fin 4) (d : Fin 256) : cutOut onesX zeroA onesN onesN b ⟨288, by decide⟩ d = ((528 : ℝ) : EReal) := by
  have e (n : Fin 16) : cut (Ideal.exp (zeroA (ix2 d n))) (lane onesX onesN b d n) 289 * onesN (ix3 b ⟨288, by decide⟩ n) = ((33 : ℝ) : EReal) :=
    (mul_one (M := EReal) _).trans ((cut_eq_own _ _ 1 32 (by decide)).trans (full_ones _ 33 fun j hj => lane_ones b d n _ (by omega)))
  refine (Finset.sum_congr rfl fun n _ => (congrArg (· * _) (if_neg (by decide))).trans (e n)).trans ?_
  rw [Finset.sum_const, Finset.card_univ, Fintype.card_fin, ← EReal.coe_nsmul]
  norm_num

/-- So the two are different functions. -/
theorem cutOut_ne_fullOut (b : Fin 4) (d : Fin 256) : cutOut onesX zeroA onesN onesN b ⟨288, by decide⟩ d ≠ fullOut onesX zeroA onesN onesN b ⟨288, by decide⟩ d := by
  rw [cutOut_ones, fullOut_ones]
  intro h
  have h' : (528 : ℝ) = 4624 := by exact_mod_cast h
  norm_num at h'

/-- On every memory that holds these arrays, row 32 of device 1's result is not the reference's row 288. -/
theorem outAt_ne_fullOut (m : (ℓ : Loc Cert.KernelIdeal.nD Cert.KernelIdeal.τ Cert.KernelIdeal.sig) → Buf (Elt Ideal) ℓ) (H : Shards m onesX zeroA onesN onesN)
    (b : Fin 4) (d : Fin 256) : (outAt m 1 : FVec Ideal Cert.KernelIdeal.S4x256x256 .f32) (ix3 b 32 d) ≠ fullOut onesX zeroA onesN onesN b (at_ 1 32) d := by
  intro h
  refine cutOut_ne_fullOut b d ((outAt_cut H (fun _ => ?_) (fun _ => ⟨1, rfl⟩) (fun _ => ⟨1, rfl⟩) (fun _ => ⟨1, rfl⟩) 1 b 32 d).symm.trans h)
  exact EReal.zero_ne_top

end Cert.Scan

end
-- ==== Proof.lean ====
/- The claims put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.TruncatedIdeal
public import proofs.«01_k».proof.Proof.Gen.Pre_finite_KernelIdeal
public import proofs.«01_k».proof.Proof.Gen.Pre_finite_ReferenceIdeal
public import proofs.«01_k».proof.Proof.Gen.On_carried
public import proofs.«01_k».proof.Proof.Values
public import proofs.«01_k».proof.Proof.Omission

@[expose] public section

noncomputable section

namespace Cert.Proof

/-- Every claim of the certificate. -/
theorem claim : Cert.Claim :=
  ⟨Cert.Kernel.Gen.facts, Cert.KernelIdeal.Gen.facts, Cert.ReferenceIdeal.Gen.facts, Cert.TruncatedIdeal.Gen.facts, Cert.Pre_finite_KernelIdeal.Gen.facts,
    Cert.Pre_finite_ReferenceIdeal.Gen.facts, Cert.On_carried.Gen.facts,
    Cert.Scan.frame_kernel, Cert.Scan.frame_ideal, Cert.Scan.frame_ideal_pre, Cert.Scan.Ref.frame, Cert.Scan.Ref.frame_pre, Cert.Scan.Trunc.frame, Cert.Scan.Trunc.frame_pre,
    trivial, Cert.Scan.reference_value, Cert.Scan.truncated_value⟩

end Cert.Proof

end
